-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x256 : Shape := ⟨2, ![1024, 256]⟩
abbrev S2x128x1024 : Shape := ⟨3, ![2, 128, 1024]⟩
abbrev S128x1024 : Shape := ⟨2, ![128, 1024]⟩
abbrev S6 : Shape := ⟨1, ![6]⟩
abbrev S8 : Shape := ⟨1, ![8]⟩
abbrev S_ : Shape := ⟨0, ![]⟩
abbrev S1x128x1024 : Shape := ⟨3, ![1, 128, 1024]⟩
abbrev S1 : Shape := ⟨1, ![1]⟩
abbrev S128x256 : Shape := ⟨2, ![128, 256]⟩

abbrev nBuf : Space → Nat
  | .hbm => 3
  | .vmem => 8
  | .smem => 0
  | _ => 0

abbrev bufTy : (tb : Table) → Fin (tcTables nBuf tb) → BufTy
  | .hbm, ⟨0, _⟩ => ⟨S256x1024, .bf16⟩
  | .hbm, ⟨1, _⟩ => ⟨S1024x256, .bf16⟩
  | .hbm, ⟨2, _⟩ => ⟨S1024x256, .bf16⟩
  | .local _ .vmem, ⟨0, _⟩ => ⟨S256x1024, .bf16⟩
  | .local _ .vmem, ⟨1, _⟩ => ⟨S1024x256, .bf16⟩
  | .local _ .vmem, ⟨2, _⟩ => ⟨S1024x256, .bf16⟩
  | .local _ .vmem, ⟨3, _⟩ => ⟨S2x128x1024, .bf16⟩
  | .local _ .vmem, ⟨4, _⟩ => ⟨S2x128x1024, .bf16⟩
  | .local _ .vmem, ⟨5, _⟩ => ⟨S2x128x1024, .bf16⟩
  | .local _ .vmem, ⟨6, _⟩ => ⟨S128x1024, .bf16⟩
  | .local _ .vmem, ⟨7, _⟩ => ⟨S128x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_23 : BitVec 32 := 1#32
  let v25 : BitVec 32 := Scalar.muli v7 c1_i32_23
  let v26 : BitVec 32 := Scalar.addi c0_i32_24 v25
  v26.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_33 : BitVec 32 := 1#32
  let v35 : BitVec 32 := Scalar.muli v5 c1_i32_33
  let v36 : BitVec 32 := Scalar.addi c0_i32_34 v35
  v36.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_43 : BitVec 32 := 1#32
  let v45 : BitVec 32 := Scalar.muli v7 c1_i32_43
  let v46 : BitVec 32 := Scalar.addi c0_i32_44 v45
  v46.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_52 : BitVec 32 := 1#32
  let v55 : BitVec 32 := Scalar.muli v5 c1_i32_52
  let v56 : BitVec 32 := Scalar.addi c0_i32_53 v55
  v56.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v69 : BitVec 32 := Scalar.muli v2 c256_i32
  let c0_i32_66 : BitVec 32 := 0#32
  ![v69.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_72 : BitVec 32 := 256#32
  let v81 : BitVec 32 := Scalar.muli v2 c256_i32_72
  let c128_i32 : BitVec 32 := 128#32
  let v82 : BitVec 32 := Scalar.addi v81 c128_i32
  let c0_i32_77 : BitVec 32 := 0#32
  ![v82.toNat, 0]
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_93 : BitVec 32 := 1#32
  let v100 : BitVec 32 := Scalar.muli v7 c1_i32_93
  let v101 : BitVec 32 := Scalar.addi c0_i32_94 v100
  v101.toNat
def k0_dev8 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_109 : BitVec 32 := 1#32
  let v116 : BitVec 32 := Scalar.muli v5 c1_i32_109
  let v117 : BitVec 32 := Scalar.addi c0_i32_110 v116
  v117.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_126 : BitVec 32 := 256#32
  let v134 : BitVec 32 := Scalar.muli v5 c256_i32_126
  let c0_i32_130 : BitVec 32 := 0#32
  ![v134.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_136 : BitVec 32 := 256#32
  let v146 : BitVec 32 := Scalar.muli v5 c256_i32_136
  let c128_i32_137 : BitVec 32 := 128#32
  let v147 : BitVec 32 := Scalar.addi v146 c128_i32_137
  let c0_i32_141 : BitVec 32 := 0#32
  ![v147.toNat, 0]
def k0_off5 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_156 : BitVec 32 := 256#32
  let v167 : BitVec 32 := Scalar.muli v7 c256_i32_156
  let c0_i32_160 : BitVec 32 := 0#32
  ![v167.toNat, 0]
def k0_off6 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_165 : BitVec 32 := 256#32
  let v179 : BitVec 32 := Scalar.muli v7 c256_i32_165
  let c128_i32_166 : BitVec 32 := 128#32
  let v180 : BitVec 32 := Scalar.addi v179 c128_i32_166
  let c0_i32_170 : BitVec 32 := 0#32
  ![v180.toNat, 0]
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Data.lean ====
/- The data of the gathered product: the ring of four devices, the buffers the kernel moves and the contents each
   of them is to hold. Device `c`'s half block `h` is rows `128 h … 128 h + 127` of its own 256 rows of `x`; a half
   block travels at most two hops round the ring, and the product of the half block `h` of device `o` with `c`'s
   columns of `w` is the band of 128 rows starting at `256 o + 128 h` of `c`'s columns of the result. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCoords
public import Idealize.ShloMosaic.Lib.ValueLayout

@[expose] public section

noncomputable section

namespace Cert.GatherProof

open Cert.KernelIdeal Cert.KernelIdeal.Gen
open Idealize.ShloMosaic
open Idealize.ShloMosaic.TcCoe
open Idealize.ShloMosaic.ValueIdx

variable {F : FTy → Type} [FloatOps F]

/-! ## The ring -/

/-- The right neighbour. -/
def nxt (c : Dev nD) : Dev nD := ⟨(c.val + 1) % 4, Nat.mod_lt _ (by decide)⟩
/-- The left neighbour. -/
def prv (c : Dev nD) : Dev nD := ⟨(c.val + 3) % 4, Nat.mod_lt _ (by decide)⟩
/-- The device across the ring. -/
def opp (c : Dev nD) : Dev nD := ⟨(c.val + 2) % 4, Nat.mod_lt _ (by decide)⟩

theorem prv_nxt : ∀ c : Dev nD, prv (nxt c) = c := by decide
theorem nxt_prv : ∀ c : Dev nD, nxt (prv c) = c := by decide
theorem prv_prv : ∀ c : Dev nD, prv (prv c) = opp c := by decide
theorem nxt_nxt : ∀ c : Dev nD, nxt (nxt c) = opp c := by decide
theorem nxt_ne_prv : ∀ c : Dev nD, nxt c ≠ prv c := by decide

/-- The ring's turn, as a permutation of the devices. -/
def turn : Dev nD ≃ Dev nD := ⟨nxt, prv, prv_nxt, nxt_prv⟩

theorem dev1 (c : Dev nD) : (⟨k0_dev1 c, k0_dev1_lt c⟩ : Dev nD) = prv c := Fin.ext (k0_dev1_eq c)
theorem dev2 (c : Dev nD) : (⟨k0_dev2 c, k0_dev2_lt c⟩ : Dev nD) = nxt c := Fin.ext (k0_dev2_eq c)
theorem dev3 (c : Dev nD) : (⟨k0_dev3 c, k0_dev3_lt c⟩ : Dev nD) = nxt c := Fin.ext (k0_dev3_eq c)
theorem dev4 (c : Dev nD) : (⟨k0_dev4 c, k0_dev4_lt c⟩ : Dev nD) = prv c := Fin.ext (k0_dev4_eq c)
theorem dev5 (c : Dev nD) : (⟨k0_dev5 c, k0_dev5_lt c⟩ : Dev nD) = nxt c := Fin.ext (k0_dev5_eq c)
theorem dev6 (c : Dev nD) : (⟨k0_dev6 c, k0_dev6_lt c⟩ : Dev nD) = prv c := Fin.ext (k0_dev6_eq c)
theorem dev7 (c : Dev nD) : (⟨k0_dev7 c, k0_dev7_lt c⟩ : Dev nD) = nxt c := Fin.ext (k0_dev7_eq c)
theorem dev8 (c : Dev nD) : (⟨k0_dev8 c, k0_dev8_lt c⟩ : Dev nD) = prv c := Fin.ext (k0_dev8_eq c)

/-! ## The buffers -/

abbrev xM : Memref sig .tc .vmem S256x1024 .bf16 := Memref.whole cc0_stg0_0
abbrev wM : Memref sig .tc .vmem S1024x256 .bf16 := Memref.whole cc0_stg1_0
abbrev oM : Memref sig .tc .hbm S1024x256 .bf16 := Memref.whole main_v1
abbrev bM : Memref sig .tc .vmem S1024x256 .bf16 := Memref.whole cc0_scratch0
abbrev mM : Memref sig .tc .vmem S2x128x1024 .bf16 := Memref.whole cc0_scratch1
abbrev lM : Memref sig .tc .vmem S2x128x1024 .bf16 := Memref.whole cc0_scratch2
abbrev rM : Memref sig .tc .vmem S2x128x1024 .bf16 := Memref.whole cc0_scratch3
abbrev aM : Memref sig .tc .vmem S128x1024 .bf16 := Memref.whole cc0_scratch4
abbrev dM : Memref sig .tc .vmem S128x1024 .bf16 := Memref.whole cc0_scratch5

/-- The rectangle of half `h` of a pair of half blocks. -/
abbrev rh0 : Rect S2x128x1024 := Rect.unit (s := S2x128x1024) ![0, 0, 0] S1x128x1024.size inb_S2x128x1024_S1x128x1024_0_0_0
abbrev rh1 : Rect S2x128x1024 := Rect.unit (s := S2x128x1024) ![1, 0, 0] S1x128x1024.size inb_S2x128x1024_S1x128x1024_1_0_0

/-- Half 0, half 1 of a pair of half blocks, as a 128 × 1024 array. -/
abbrev lo (M : Memref sig .tc .vmem S2x128x1024 .bf16) : Memref sig .tc .vmem S128x1024 .bf16 :=
  (M.slice rh0 (fun _ => rfl)).squeeze S128x1024 squeezes_S1x128x1024_S128x1024
abbrev hi (M : Memref sig .tc .vmem S2x128x1024 .bf16) : Memref sig .tc .vmem S128x1024 .bf16 :=
  (M.slice rh1 (fun _ => rfl)).squeeze S128x1024 squeezes_S1x128x1024_S128x1024

theorem band_inb (n : ℕ) (h : n + 128 ≤ 1024) : ∀ a, (![n, 0] : Fin 2 → ℕ) a + S128x256.size a ≤ S1024x256.size a := by
  intro a
  match a with
  | ⟨0, _⟩ => exact h
  | ⟨1, _⟩ => exact le_refl 256

/-- The band of 128 rows that begins at row `128 b`. -/
abbrev rb (b : Fin 8) : Rect S1024x256 := Rect.unit (s := S1024x256) ![128 * b.val, 0] S128x256.size (band_inb _ (by omega))

abbrev bB (b : Fin 8) : Memref sig .tc .vmem S128x256 .bf16 := bM.slice (rb b) (fun _ => rfl)
abbrev oB (b : Fin 8) : Memref sig .tc .hbm S128x256 .bf16 := oM.slice (rb b) (fun _ => rfl)

/-- The band of the result that holds the product of half `h` of device `o`'s rows. -/
def band (o : Dev nD) (h : Fin 2) : Fin 8 := ⟨2 * o.val + h.val, by have := o.isLt; have : nD = 4 := rfl; omega⟩

/-- The device whose rows the `j`-th product takes, seen from device `c`: its own, the left neighbour's, the right
    neighbour's, the one's across. -/
def org (c : Dev nD) (j : Fin 8) : Dev nD :=
  match j with
  | 0 | 1 => c
  | 2 | 3 => prv c
  | 4 | 5 => nxt c
  | 6 | 7 => opp c

/-- The band of the result the `j`-th product of device `c` goes to. -/
def dest (c : Dev nD) (j : Fin 8) : Fin 8 := band (org c j) ⟨j.val % 2, Nat.mod_lt _ (by decide)⟩

theorem dest_bijective : ∀ c : Dev nD, Function.Bijective (dest c) := by decide

/-- A slice of the result at equal offsets is one slice. -/
theorem oslice_congr {off off' : Fin 2 → ℕ} (h : off = off') (i i') :
    (oM.slice (Rect.unit (s := S1024x256) off S128x256.size i) (fun _ => rfl) : Memref sig .tc .hbm S128x256 .bf16)
      = oM.slice (Rect.unit (s := S1024x256) off' S128x256.size i') (fun _ => rfl) := by subst h; rfl

theorem off1 (c : Dev nD) : oM.slice (Rect.unit (s := S1024x256) (k0_off1 c) S128x256.size (k0_off1_inb c)) (fun _ => rfl) = oB (dest c 0) :=
  oslice_congr (by rw [k0_off1_eq]; revert c; decide) _ _
theorem off2 (c : Dev nD) : oM.slice (Rect.unit (s := S1024x256) (k0_off2 c) S128x256.size (k0_off2_inb c)) (fun _ => rfl) = oB (dest c 1) :=
  oslice_congr (by rw [k0_off2_eq]; revert c; decide) _ _
theorem off3 (c : Dev nD) : oM.slice (Rect.unit (s := S1024x256) (k0_off3 c) S128x256.size (k0_off3_inb c)) (fun _ => rfl) = oB (dest c 2) :=
  oslice_congr (by rw [k0_off3_eq]; revert c; decide) _ _
theorem off4 (c : Dev nD) : oM.slice (Rect.unit (s := S1024x256) (k0_off4 c) S128x256.size (k0_off4_inb c)) (fun _ => rfl) = oB (dest c 3) :=
  oslice_congr (by rw [k0_off4_eq]; revert c; decide) _ _
theorem off5 (c : Dev nD) : oM.slice (Rect.unit (s := S1024x256) (k0_off5 c 1#32) S128x256.size (k0_off5_inb c 0)) (fun _ => rfl) = oB (dest c 4) :=
  oslice_congr ((k0_off5_eq c 0).trans (by revert c; decide)) _ _
theorem off6 (c : Dev nD) : oM.slice (Rect.unit (s := S1024x256) (k0_off6 c 1#32) S128x256.size (k0_off6_inb c 0)) (fun _ => rfl) = oB (dest c 5) :=
  oslice_congr ((k0_off6_eq c 0).trans (by revert c; decide)) _ _
theorem off7 (c : Dev nD) : oM.slice (Rect.unit (s := S1024x256) (k0_off5 c 2#32) S128x256.size (k0_off5_inb c 1)) (fun _ => rfl) = oB (dest c 6) :=
  oslice_congr ((k0_off5_eq c 1).trans (by revert c; decide)) _ _
theorem off8 (c : Dev nD) : oM.slice (Rect.unit (s := S1024x256) (k0_off6 c 2#32) S128x256.size (k0_off6_inb c 1)) (fun _ => rfl) = oB (dest c 7) :=
  oslice_congr ((k0_off6_eq c 1).trans (by revert c; decide)) _ _

/-! ## Contents -/

variable (m : (ℓ : Loc nD τ sig) → Buf (Elt F) ℓ)

/-- Device `c`'s rows of `x`, its columns of `w`. -/
def xC (c : Dev nD) : Vec F S256x1024 .bf16 := (win0_0.blk (0 : Fin 1)).view.read (Elt F) (m ((c : Thread nD τ).loc main_arg0))
def wC (c : Dev nD) : Vec F S1024x256 .bf16 := (win0_1.blk (0 : Fin 1)).view.read (Elt F) (m ((c : Thread nD τ).loc main_arg1))

/-- Half `h` of device `c`'s rows. -/
def half (c : Dev nD) (h : Fin 2) : Vec F S128x1024 .bf16 :=
  fun i => xC m c (ix2 ⟨128 * h.val + (i 0).val, by have := idx2_lt0 i; omega⟩ (i 1))
/-- The two halves, one over the other. -/
def pair (c : Dev nD) : Vec F S2x128x1024 .bf16 := fun i => half m c (i 0) (ix2 (i 1) (i 2))

/-- The product of half `h` of device `o`'s rows with device `c`'s columns. -/
def prod (c o : Dev nD) (h : Fin 2) : Vec F S128x256 .bf16 :=
  truncf .bf16 (matmul dot_S128x1024_S1024x256_S128x256_1_0_0_1_n_n none (half m o h) (wC m c) (constant S128x256 .f32 0x00000000#32)) bitsLt_bf16_f32
/-- The `j`-th product of device `c`. -/
def prodAt (c : Dev nD) (j : Fin 8) : Vec F S128x256 .bf16 := prod m c (org c j) ⟨j.val % 2, Nat.mod_lt _ (by decide)⟩

/-- The result's columns on device `c`. -/
def outC (c : Dev nD) : Vec F S1024x256 .bf16 := fun i =>
  prod m c ⟨(i 0).val / 256, by have := idx2_lt0 i; have : nD = 4 := rfl; omega⟩ ⟨(i 0).val / 128 % 2, Nat.mod_lt _ (by decide)⟩
    (ix2 ⟨(i 0).val % 128, Nat.mod_lt _ (by decide)⟩ (i 1))
/-- The products in the order they are made, one under the other. -/
def bufC (c : Dev nD) : Vec F S1024x256 .bf16 := fun i =>
  prodAt m c ⟨(i 0).val / 128, by have := idx2_lt0 i; omega⟩ (ix2 ⟨(i 0).val % 128, Nat.mod_lt _ (by decide)⟩ (i 1))

/-! ## What the views read of them -/

omit [FloatOps F] in
theorem rh0_emb (i : Fin 128) (k : Fin 1024) (h) : rh0.emb (Shape.reshapeEquiv (s := S1x128x1024) h (ix2 i k)) = ix3 (0 : Fin 2) i k := by
  rw [reshapeEquiv_ix2_1ab]
  funext a
  apply Fin.ext
  match a with
  | ⟨0, _⟩ => rfl
  | ⟨1, _⟩ => show 0 + 1 * i.val = i.val; omega
  | ⟨2, _⟩ => show 0 + 1 * k.val = k.val; omega
omit [FloatOps F] in
theorem rh1_emb (i : Fin 128) (k : Fin 1024) (h) : rh1.emb (Shape.reshapeEquiv (s := S1x128x1024) h (ix2 i k)) = ix3 (1 : Fin 2) i k := by
  rw [reshapeEquiv_ix2_1ab]
  funext a
  apply Fin.ext
  match a with
  | ⟨0, _⟩ => rfl
  | ⟨1, _⟩ => show 0 + 1 * i.val = i.val; omega
  | ⟨2, _⟩ => show 0 + 1 * k.val = k.val; omega
omit [FloatOps F] in
theorem rb_emb (b : Fin 8) (i : Fin 128) (k : Fin 256) :
    (rb b).emb (ix2 i k) = ix2 (⟨128 * b.val + i.val, by omega⟩ : Fin 1024) k := by
  funext a
  apply Fin.ext
  match a with
  | ⟨0, _⟩ => show 128 * b.val + 1 * i.val = 128 * b.val + i.val; omega
  | ⟨1, _⟩ => show 0 + 1 * k.val = k.val; omega

omit [FloatOps F] in
theorem pair_at (c : Dev nD) (h : Fin 2) (i : Fin 128) (k : Fin 1024) : pair m c (ix3 h i k) = half m c h (ix2 i k) := rfl

omit [FloatOps F] in
theorem read_lo_m (c : Dev nD) : (lo mM).view.read (Elt F) (pair m c) = half m c 0 := by
  funext i; rw [eq_ix2 i]
  exact (congrArg (pair m c) (rh0_emb (i 0) (i 1) _)).trans (pair_at m c 0 _ _)
omit [FloatOps F] in
theorem read_hi_m (c : Dev nD) : (hi mM).view.read (Elt F) (pair m c) = half m c 1 := by
  funext i; rw [eq_ix2 i]
  exact (congrArg (pair m c) (rh1_emb (i 0) (i 1) _)).trans (pair_at m c 1 _ _)
omit [FloatOps F] in
theorem read_lo_l (c : Dev nD) : (lo lM).view.read (Elt F) (pair m c) = half m c 0 := by
  funext i; rw [eq_ix2 i]
  exact (congrArg (pair m c) (rh0_emb (i 0) (i 1) _)).trans (pair_at m c 0 _ _)
omit [FloatOps F] in
theorem read_hi_l (c : Dev nD) : (hi lM).view.read (Elt F) (pair m c) = half m c 1 := by
  funext i; rw [eq_ix2 i]
  exact (congrArg (pair m c) (rh1_emb (i 0) (i 1) _)).trans (pair_at m c 1 _ _)
omit [FloatOps F] in
theorem read_lo_r (c : Dev nD) : (lo rM).view.read (Elt F) (pair m c) = half m c 0 := by
  funext i; rw [eq_ix2 i]
  exact (congrArg (pair m c) (rh0_emb (i 0) (i 1) _)).trans (pair_at m c 0 _ _)
omit [FloatOps F] in
theorem read_hi_r (c : Dev nD) : (hi rM).view.read (Elt F) (pair m c) = half m c 1 := by
  funext i; rw [eq_ix2 i]
  exact (congrArg (pair m c) (rh1_emb (i 0) (i 1) _)).trans (pair_at m c 1 _ _)

theorem bufC_at (c : Dev nD) (b : Fin 8) (i : Fin 128) (k : Fin 256) :
    bufC m c (ix2 (⟨128 * b.val + i.val, by omega⟩ : Fin 1024) k) = prodAt m c b (ix2 i k) := by
  have h1 : (⟨(128 * b.val + i.val) / 128, by omega⟩ : Fin 8) = b := Fin.ext (by show (128 * b.val + i.val) / 128 = b.val; omega)
  have h2 : (⟨(128 * b.val + i.val) % 128, Nat.mod_lt _ (by decide)⟩ : Fin 128) = i := Fin.ext (by show (128 * b.val + i.val) % 128 = i.val; omega)
  show prodAt m c ⟨(128 * b.val + i.val) / 128, _⟩ (ix2 ⟨(128 * b.val + i.val) % 128, _⟩ k) = _
  rw [h1, h2]

theorem outC_at (c o : Dev nD) (h : Fin 2) (i : Fin 128) (k : Fin 256) :
    outC m c (ix2 (⟨128 * (band o h).val + i.val, by omega⟩ : Fin 1024) k) = prod m c o h (ix2 i k) := by
  have hb : (band o h).val = 2 * o.val + h.val := rfl
  have h1 : ∀ p, (⟨(128 * (band o h).val + i.val) / 256, p⟩ : Dev nD) = o :=
    fun p => Fin.ext (by show (128 * (band o h).val + i.val) / 256 = o.val; omega)
  have h2 : ∀ p, (⟨(128 * (band o h).val + i.val) / 128 % 2, p⟩ : Fin 2) = h :=
    fun p => Fin.ext (by show (128 * (band o h).val + i.val) / 128 % 2 = h.val; omega)
  have h3 : ∀ p, (⟨(128 * (band o h).val + i.val) % 128, p⟩ : Fin 128) = i :=
    fun p => Fin.ext (by show (128 * (band o h).val + i.val) % 128 = i.val; omega)
  show prod m c ⟨(128 * (band o h).val + i.val) / 256, _⟩ ⟨(128 * (band o h).val + i.val) / 128 % 2, _⟩
    (ix2 ⟨(128 * (band o h).val + i.val) % 128, _⟩ k) = _
  rw [h1, h2, h3]

theorem read_bB (c : Dev nD) (b : Fin 8) : (bB b).view.read (Elt F) (bufC m c) = prodAt m c b := by
  funext i; rw [eq_ix2 i]
  exact (congrArg (bufC m c) (rb_emb b (i 0) (i 1))).trans (bufC_at m c b _ _)
theorem read_oB (c : Dev nD) (j : Fin 8) : (oB (dest c j)).view.read (Elt F) (outC m c) = prodAt m c j := by
  funext i; rw [eq_ix2 i]
  exact (congrArg (outC m c) (rb_emb (dest c j) (i 0) (i 1))).trans (outC_at m c _ _ _ _)

/-! ## What the loads and the products give -/

abbrev rx0 : Rect S256x1024 := Rect.unit (s := S256x1024) ![0, 0] S128x1024.size inb_S256x1024_S128x1024_0_0
abbrev rx1 : Rect S256x1024 := Rect.unit (s := S256x1024) ![128, 0] S128x1024.size inb_S256x1024_S128x1024_128_0
abbrev rw0 : Rect S1024x256 := Rect.unit (s := S1024x256) ![0, 0] S1024x256.size inb_S1024x256_S1024x256_0_0
abbrev ra0 : Rect S128x1024 := Rect.unit (s := S128x1024) ![0, 0] S128x1024.size inb_S128x1024_S128x1024_0_0

omit [FloatOps F] in
theorem hz2 : (![0, 0] : Fin 2 → Nat) = fun _ => 0 := funext fun a => by fin_cases a <;> rfl

omit [FloatOps F] in
theorem load_w (f : Vec F S1024x256 .bf16) : wM.view.readAt (Elt F) rw0.toLoadRect f = f :=
  Memref.readAt_unit_zero (Elt F) cc0_stg1_0 hz2 _ f
omit [FloatOps F] in
theorem load_a (f : Vec F S128x1024 .bf16) : aM.view.readAt (Elt F) ra0.toLoadRect f = f :=
  Memref.readAt_unit_zero (Elt F) cc0_scratch4 hz2 _ f
omit [FloatOps F] in
theorem load_d (f : Vec F S128x1024 .bf16) : dM.view.readAt (Elt F) ra0.toLoadRect f = f :=
  Memref.readAt_unit_zero (Elt F) cc0_scratch5 hz2 _ f

omit [FloatOps F] in
theorem load_x0 (c : Dev nD) : xM.view.readAt (Elt F) rx0.toLoadRect (xC m c) = half m c 0 := by
  funext i; rw [eq_ix2 i]
  show xC m c _ = xC m c _
  congr 1; funext a; apply Fin.ext
  match a with
  | ⟨0, _⟩ => show 0 + 1 * (i 0).val = 128 * 0 + (i 0).val; omega
  | ⟨1, _⟩ => show 0 + 1 * (i 1).val = (i 1).val; omega
omit [FloatOps F] in
theorem load_x1 (c : Dev nD) : xM.view.readAt (Elt F) rx1.toLoadRect (xC m c) = half m c 1 := by
  funext i; rw [eq_ix2 i]
  show xC m c _ = xC m c _
  congr 1; funext a; apply Fin.ext
  match a with
  | ⟨0, _⟩ => show 128 + 1 * (i 0).val = 128 * 1 + (i 0).val; omega
  | ⟨1, _⟩ => show 0 + 1 * (i 1).val = (i 1).val; omega

omit [FloatOps F] in
theorem load_lo_m (c : Dev nD) (h) : shapeCast S128x1024 (mM.view.readAt (Elt F) rh0.toLoadRect (pair m c)) h = half m c 0 := read_lo_m m c
omit [FloatOps F] in
theorem load_hi_m (c : Dev nD) (h) : shapeCast S128x1024 (mM.view.readAt (Elt F) rh1.toLoadRect (pair m c)) h = half m c 1 := read_hi_m m c
omit [FloatOps F] in
theorem load_lo_l (c : Dev nD) (h) : shapeCast S128x1024 (lM.view.readAt (Elt F) rh0.toLoadRect (pair m c)) h = half m c 0 := read_lo_l m c
omit [FloatOps F] in
theorem load_hi_l (c : Dev nD) (h) : shapeCast S128x1024 (lM.view.readAt (Elt F) rh1.toLoadRect (pair m c)) h = half m c 1 := read_hi_l m c
omit [FloatOps F] in
theorem load_lo_r (c : Dev nD) (h) : shapeCast S128x1024 (rM.view.readAt (Elt F) rh0.toLoadRect (pair m c)) h = half m c 0 := read_lo_r m c
omit [FloatOps F] in
theorem load_hi_r (c : Dev nD) (h) : shapeCast S128x1024 (rM.view.readAt (Elt F) rh1.toLoadRect (pair m c)) h = half m c 1 := read_hi_r m c

theorem store_lo (c : Dev nD) : (mM.access rh0).read (Elt F) (pair m c) = k0_pay1 (half m c 0) := by
  funext i
  rw [eq_ix3 i]
  show pair m c _ = shapeCast S1x128x1024 (shapeCast S128x1024 (half m c 0) shapeCasts_S128x1024_S128x1024) shapeCasts_S128x1024_S1x128x1024 _
  rw [shapeCast_self]
  refine Eq.trans ?_ (shapeCast_ab_1ab_apply _ _ _ _ _).symm
  refine (congrArg (pair m c) ?_).trans (pair_at m c 0 (i 1) (i 2))
  have h0 : (i 0).val = 0 := by have : (i 0).val < 1 := (i 0).isLt; omega
  funext a; apply Fin.ext
  match a with
  | ⟨0, _⟩ => show 0 + 1 * (i 0).val = 0; omega
  | ⟨1, _⟩ => show 0 + 1 * (i 1).val = (i 1).val; omega
  | ⟨2, _⟩ => show 0 + 1 * (i 2).val = (i 2).val; omega
theorem store_hi (c : Dev nD) : (mM.access rh1).read (Elt F) (pair m c) = k0_pay2 (half m c 1) := by
  funext i
  rw [eq_ix3 i]
  show pair m c _ = shapeCast S1x128x1024 (shapeCast S128x1024 (half m c 1) shapeCasts_S128x1024_S128x1024) shapeCasts_S128x1024_S1x128x1024 _
  rw [shapeCast_self]
  refine Eq.trans ?_ (shapeCast_ab_1ab_apply _ _ _ _ _).symm
  refine (congrArg (pair m c) ?_).trans (pair_at m c 1 (i 1) (i 2))
  have h0 : (i 0).val = 0 := by have : (i 0).val < 1 := (i 0).isLt; omega
  funext a; apply Fin.ext
  match a with
  | ⟨0, _⟩ => show 1 + 1 * (i 0).val = 1; omega
  | ⟨1, _⟩ => show 0 + 1 * (i 1).val = (i 1).val; omega
  | ⟨2, _⟩ => show 0 + 1 * (i 2).val = (i 2).val; omega

theorem pay3 (w : Vec F S1024x256 .bf16) : k0_pay3 w = w := shapeCast_self _ _
theorem pay4 (c : Dev nD) : k0_pay4 (wC m c) (mM.view.readAt (Elt F) rh0.toLoadRect (pair m c)) = prodAt m c 0 := by
  unfold k0_pay4; dsimp only; rw [shapeCast_self, pay3, load_lo_m]; rfl
theorem pay6 (c : Dev nD) : k0_pay6 (wC m c) (k0_pay5 (mM.view.readAt (Elt F) rh1.toLoadRect (pair m c))) = prodAt m c 1 := by
  unfold k0_pay6 k0_pay5; dsimp only; rw [shapeCast_self, load_hi_m]; rfl
theorem pay8 (c : Dev nD) : k0_pay8 (k0_pay7 (wC m c) (lM.view.readAt (Elt F) rh0.toLoadRect (pair m (prv c)))) = prodAt m c 2 := by
  unfold k0_pay8 k0_pay7; dsimp only; rw [shapeCast_self, load_lo_l]; rfl
theorem pay9 (c : Dev nD) : k0_pay9 (wC m c) (lM.view.readAt (Elt F) rh1.toLoadRect (pair m (prv c))) = prodAt m c 3 := by
  unfold k0_pay9; dsimp only; rw [shapeCast_self, load_hi_l]; rfl
theorem pay10 (c : Dev nD) : k0_pay10 (wC m c) (rM.view.readAt (Elt F) rh0.toLoadRect (pair m (nxt c))) = prodAt m c 4 := by
  unfold k0_pay10; dsimp only; rw [shapeCast_self, load_lo_r]; rfl
theorem pay11 (c : Dev nD) : k0_pay11 (wC m c) (rM.view.readAt (Elt F) rh1.toLoadRect (pair m (nxt c))) = prodAt m c 5 := by
  unfold k0_pay11; dsimp only; rw [shapeCast_self, load_hi_r]; rfl
theorem pay12 (c : Dev nD) : k0_pay12 (wC m c) (half m (opp c) 0) = prodAt m c 6 := by
  unfold k0_pay12; dsimp only; rw [shapeCast_self]; rfl
theorem pay13 (c : Dev nD) : k0_pay13 (wC m c) (half m (opp c) 1) = prodAt m c 7 := by
  unfold k0_pay13; dsimp only; rw [shapeCast_self]; rfl

end Cert.GatherProof

end
-- ==== Proof.Protocol.lean ====
/- The protocol of the gathered product, as one round of every semaphore cell. A device's barrier cell takes two units,
   one from each neighbour, and with each unit the neighbour hands over the buffers that are to receive from this side.
   A receive cell's landing hands its owner the half block that has landed; a send cell hands back the part of the source
   that was lent to the copy; a store cell hands back one product and the band of the result that now holds it. -/
module

public import proofs.«01_k».proof.Proof.Data

@[expose] public section

noncomputable section

namespace Cert.GatherProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Rounds whose duties have two names: the barrier's two units are told apart by the neighbour that pays them. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The cells

A device's cells are numbered: 0–5 the send cells, 6–11 the receive cells, 12–19 the store cells, 20 the barrier. -/

abbrev dsem (k : Fin 20) : DmaSem sig := ⟨2 + k.val, by have := k.isLt; show 2 + k.val < 22; omega⟩
/-- The barrier's semaphore. -/
abbrev barS : Sem sig := (SemArray.scalar (sig.barrier 0 rfl) : Sems sig S_).sem
/-- Cell `k`'s semaphore. -/
def csem (k : Fin 21) : SemLoc sig := if h : k.val < 20 then .dma (dsem ⟨k.val, h⟩) else .reg barS
/-- The number of a semaphore's cell. -/
def cidx : SemLoc sig → Fin 21
  | .reg _ => 20
  | .dma q => ⟨q.val - 2, by have : q.val < 22 := q.isLt; omega⟩
theorem cidx_csem : ∀ k, cidx (csem k) = k := by decide
theorem csem_injective : Function.Injective csem := fun a b h => by rw [← cidx_csem a, ← cidx_csem b, h]
abbrev kcell (ck : Dev nD × Fin 21) : GSem nD τ sig := ((ck.1 : Thread nD τ), csem ck.2)

/-- What a copy of a half block credits; what a copy of a product credits. -/
abbrev N₁ : ℕ := (lo mM).view.dmaCredit
abbrev N₂ : ℕ := (oB 0).view.dmaCredit
theorem N₁_pos : 0 < N₁ := View.dmaCredit_pos _ (by decide)
theorem N₂_pos : 0 < N₂ := View.dmaCredit_pos _ (by decide)

/-! ## Held pieces -/

/-- A view's elements on device `c`, held at a share and holding `f`. -/
abbrev pts {sp : Space} {s : Shape} {e : EltTy} (c : Dev nD) (M : Memref sig .tc sp s e) (q : PosShare TreeShare)
    (f : Buf (Elt F) (M.view.loc (c : Thread nD τ))) : sProp 𝕄 :=
  (M.view.loc (c : Thread nD τ)) ↦[M.view.set]{q} f

omit [FloatOps F] in
/-- Writing what a buffer's contents read through the view leaves those contents on the view's elements. -/
theorem pts_write {sp : Space} {s : Shape} {e : EltTy} (c : Dev nD) (M : Memref sig .tc sp s e) (q : PosShare TreeShare)
    (fd f : Buf (Elt F) (M.view.loc (c : Thread nD τ))) (v : Vec F s e) (h : M.view.read (Elt F) f = v) :
    pts c M q (M.view.write (Elt F) fd v Finset.univ) = pts c M q f := by
  subst h
  refine pointsTo_congr fun i hi => ?_
  obtain ⟨j, -, rfl⟩ := Finset.mem_map.mp hi
  rw [View.write_emb_of_mem _ _ (Finset.mem_univ j), View.read_apply, cast_cast, cast_eq]

/-- A view's elements on device `c`, held whole with unknown contents. -/
def anyPts {sp : Space} {s : Shape} {e : EltTy} (c : Dev nD) (M : Memref sig .tc sp s e) : sProp 𝕄 := iprop(∃ f, pts c M fullShare f)
omit [FloatOps F] in
instance anyPts_storable {sp : Space} {s : Shape} {e : EltTy} (c : Dev nD) (M : Memref sig .tc sp s e) :
    BI.Storable (upEmb : UEmb _ 𝕄) (anyPts (F := F) c M) := by unfold anyPts; infer_instance

/-- A lent share, a second lent share, and the share kept for reading. -/
abbrev qA : PosShare TreeShare := fullShare.left
abbrev qB : PosShare TreeShare := fullShare.right.left
abbrev qC : PosShare TreeShare := fullShare.right.right
abbrev qD : PosShare TreeShare := fullShare.right

/-! ## The payloads -/

/-- What store cell `j` hands back: the `j`-th product's rows, and the band of the result that holds the product. -/
abbrev storePay (c : Dev nD) (j : Fin 8) : sProp 𝕄 :=
  iprop(pts c (bB j) fullShare (bufC m c) ∗ pts c (oB (dest c j)) fullShare (outC m c))
/-- What a device's right neighbour `d` hands it at the barrier, and its left neighbour `d`: where its half blocks are to land. -/
def fromNxt (d : Dev nD) : sProp 𝕄 :=
  iprop(anyPts d (lo lM) ∗ anyPts d (hi lM) ∗ anyPts d aM)
def fromPrv (d : Dev nD) : sProp 𝕄 :=
  iprop(anyPts d (lo rM) ∗ anyPts d (hi rM) ∗ anyPts d dM)
omit [FloatOps F] in
instance fromNxt_storable (d : Dev nD) : BI.Storable (upEmb : UEmb _ 𝕄) (fromNxt (F := F) d) := by unfold fromNxt; infer_instance
omit [FloatOps F] in
instance fromPrv_storable (d : Dev nD) : BI.Storable (upEmb : UEmb _ 𝕄) (fromPrv (F := F) d) := by unfold fromPrv; infer_instance

/-- What cell `k` of device `c` hands over with duty `d`. -/
def pay (c : Dev nD) (k : Fin 21) (d : Bool) : sProp 𝕄 :=
  match k with
  | 0 => pts c (lo mM) qA (pair m c)
  | 1 => pts c (hi mM) qA (pair m c)
  | 2 => pts c (hi mM) qB (pair m c)
  | 3 => pts c (lo mM) qB (pair m c)
  | 4 => pts c (lo lM) qA (pair m (prv c))
  | 5 => pts c (hi rM) qA (pair m (nxt c))
  | 6 => pts c (lo lM) fullShare (pair m (prv c))
  | 7 => pts c (hi rM) fullShare (pair m (nxt c))
  | 8 => pts c (hi lM) fullShare (pair m (prv c))
  | 9 => pts c (lo rM) fullShare (pair m (nxt c))
  | 10 => pts c aM fullShare (half m (opp c) 0)
  | 11 => pts c dM fullShare (half m (opp c) 1)
  | 12 => storePay m c 0
  | 13 => storePay m c 1
  | 14 => storePay m c 2
  | 15 => storePay m c 3
  | 16 => storePay m c 4
  | 17 => storePay m c 5
  | 18 => storePay m c 6
  | 19 => storePay m c 7
  | _ => if d then fromPrv (prv c) else fromNxt (nxt c)

instance pay_storable (c : Dev nD) (k : Fin 21) (d : Bool) : BI.Storable (upEmb : UEmb _ 𝕄) (pay m c k d) := by
  unfold pay
  split
  all_goals first | infer_instance | (split <;> infer_instance)

/-! ## The schedule -/

abbrev dutiesOf (k : Fin 21) : Finset Bool := if k = 20 then Finset.univ else {false}
abbrev amountOf (k : Fin 21) : ℕ := if k.val < 12 then N₁ else if k.val < 20 then N₂ else 1

theorem amountOf_pos (k : Fin 21) : 0 < amountOf k := by
  unfold amountOf; split
  · exact N₁_pos
  · split
    · exact N₂_pos
    · exact Nat.one_pos

def rd : Rounds.Schedule (GSem nD τ sig) Bool 𝕄 where
  duties g r := if r = 0 then dutiesOf (cidx g.2) else ∅
  unitless _ := False
  amount g _ _ := amountOf (cidx g.2)
  payload g _ d := pay m g.1.1 (cidx g.2) d
  amount_pos g _ _ _ := amountOf_pos _

instance rd_payload_storable (g : GSem nD τ sig) (r : ℕ) (d : Bool) : BI.Storable (upEmb : UEmb _ 𝕄) ((rd (F := F) m).payload g r d) :=
  pay_storable m g.1.1 (cidx g.2) d

theorem duties_at (c : Dev nD) (k : Fin 21) : (rd (F := F) m).duties (kcell (c, k)) 0 = dutiesOf k := by
  show (if 0 = 0 then dutiesOf (cidx (csem k)) else ∅) = _
  rw [if_pos rfl, cidx_csem]
theorem duties_later (g : GSem nD τ sig) : ∀ r, 1 ≤ r → (rd (F := F) m).duties g r = ∅ :=
  fun r hr => if_neg (by omega)
theorem amount_at (c : Dev nD) (k : Fin 21) (r : ℕ) (d : Bool) : (rd (F := F) m).amount (kcell (c, k)) r d = amountOf k := by
  show amountOf (cidx (csem k)) = _
  rw [cidx_csem]
theorem payload_at (c : Dev nD) (k : Fin 21) (r : ℕ) (d : Bool) : (rd (F := F) m).payload (kcell (c, k)) r d = pay m c k d := by
  show pay m c (cidx (csem k)) d = _
  rw [cidx_csem]
theorem expect_at (c : Dev nD) (k : Fin 21) : (rd (F := F) m).expect (kcell (c, k)) 0 = if k = 20 then 2 else amountOf k := by
  unfold Schedule.expect Schedule.amountOf
  rw [duties_at]
  simp only [amount_at, Finset.sum_const, smul_eq_mul]
  by_cases h : k = 20
  · subst h; rfl
  · simp only [dutiesOf, if_neg h, Finset.card_singleton, Nat.one_mul]
theorem rest_at (c : Dev nD) (k : Fin 21) (hk : k ≠ 20) :
    bigSep ((rd (F := F) m).duties (kcell (c, k)) 0 \ ∅) (fun d => (rd (F := F) m).payload (kcell (c, k)) 0 d) = pay m c k false := by
  rw [Finset.sdiff_empty, duties_at, dutiesOf, if_neg hk, bigSep_singleton, payload_at]
theorem rest_bar (c : Dev nD) :
    bigSep ((rd (F := F) m).duties (kcell (c, 20)) 0 \ ∅) (fun d => (rd (F := F) m).payload (kcell (c, 20)) 0 d) = iprop(fromNxt (nxt c) ∗ fromPrv (prv c)) := by
  rw [Finset.sdiff_empty, duties_at, dutiesOf, if_pos rfl, bigSep_univ_eq_bigSepL [false, true] (by decide) (by decide)]
  simp only [payload_at]
  rfl

/-! ## What a device owes, and the levels -/

/-- One landing, or one unit of the barrier, owed to device `d`. -/
abbrev oweR (d : Dev nD) (k : Fin 21) : CellTallies nD τ sig Unit := tallyAt (kcell (d, k)) () N₁
abbrev oweB (d : Dev nD) : CellTallies nD τ sig Unit := tallyAt (kcell (d, 20)) () 1

def O₇ (c : Dev nD) : CellTallies nD τ sig Unit := oweR (prv c) 11
def O₆ (c : Dev nD) : CellTallies nD τ sig Unit := O₇ c + oweR (nxt c) 10
def O₅ (c : Dev nD) : CellTallies nD τ sig Unit := O₆ c + oweR (prv c) 9
def O₄ (c : Dev nD) : CellTallies nD τ sig Unit := O₅ c + oweR (nxt c) 8
def O₃ (c : Dev nD) : CellTallies nD τ sig Unit := O₄ c + oweR (prv c) 7
def O₂ (c : Dev nD) : CellTallies nD τ sig Unit := O₃ c + oweR (nxt c) 6
def O₁ (c : Dev nD) : CellTallies nD τ sig Unit := O₂ c + oweB (nxt c)
def O₀ (c : Dev nD) : CellTallies nD τ sig Unit := O₁ c + oweB (prv c)

def L (g : GSem nD τ sig) : Finset Unit := if g.1.2 = .tc then {()} else ∅
/-- The levels: a cell is waited for only while every debt stands at a higher one. -/
def lvl (k : Fin 21) : ℕ := if k.val < 6 then 0 else if k.val < 10 then 2 else if k.val < 12 then 3 else if k.val < 20 then 0 else 1
def lv (g : GSem nD τ sig) (_ : Unit) : ℕ := lvl (cidx g.2)
theorem L_of_ne (g : GSem nD τ sig) (h : g.1.2 ≠ .tc) : L g = ∅ := if_neg h
theorem L_tc (c : Dev nD) (sm : SemLoc sig) : L ((c : Thread nD τ), sm) = {()} := if_pos rfl

/-- Every debt in `O` is at a level above `n`. -/
def Above (n : ℕ) (O : CellTallies nD τ sig Unit) : Prop := ∀ g u, 0 < O g u → () ∈ L g ∧ n < lv g u
theorem above_zero (n : ℕ) : Above n 0 := fun g u h => absurd h (Nat.lt_irrefl 0)
theorem above_tally (n : ℕ) (c : Dev nD) (k : Fin 21) (a : ℕ) (h : n < lvl k) : Above n (tallyAt (kcell (c, k)) () a) := fun g u hg => by
  rw [tallyAt_apply] at hg
  by_cases h' : g = kcell (c, k) ∧ u = ()
  · rw [h'.1]
    refine ⟨by rw [L_tc]; exact Finset.mem_singleton_self _, ?_⟩
    show n < lvl (cidx (csem k))
    rwa [cidx_csem]
  · rw [if_neg h'] at hg; exact absurd hg (Nat.lt_irrefl 0)
theorem above_add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)

theorem above₇ (c : Dev nD) : Above 2 (O₇ c) := above_tally _ _ _ _ (by decide)
theorem above₆ (c : Dev nD) : Above 2 (O₆ c) := above_add (above₇ c) (above_tally _ _ _ _ (by decide))
theorem Above.mono {n n' : ℕ} {O : CellTallies nD τ sig Unit} (h : Above n O) (hn : n' ≤ n) : Above n' O := fun g u hg => ⟨(h g u hg).1, lt_of_le_of_lt hn (h g u hg).2⟩
theorem above₂ (c : Dev nD) : Above 1 (O₂ c) :=
  above_add (above_add (above_add (above_add ((above₆ c).mono (by decide)) (above_tally _ _ _ _ (by decide))) (above_tally _ _ _ _ (by decide)))
    (above_tally _ _ _ _ (by decide))) (above_tally _ _ _ _ (by decide))
theorem above₀ (c : Dev nD) : Above 0 (O₀ c) :=
  above_add (above_add ((above₂ c).mono (by decide)) (above_tally _ _ _ _ (by decide))) (above_tally _ _ _ _ (by decide))

omit [FloatOps F] in
theorem mayWait_above (c : Dev nD) (sm : SemLoc sig) (n : ℕ) (O : CellTallies nD τ sig Unit) (hs : lvl (cidx sm) ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hs)
    (fun g u hg => (hO g u hg).2)

end Cert.GatherProof

end
-- ==== Proof.Steps.lean ====
/- One rule per kind of step the kernel makes, in the terms of its protocol: a signal of the barrier, a copy to a
   neighbour, a copy into the result, a wait, a load and a store of a piece. -/
module

public import proofs.«01_k».proof.Proof.Protocol

@[expose] public section

noncomputable section

namespace Cert.GatherProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device knows -/

variable (K : Dev nD × Fin 21 → ℕ)

/-- Every cell of every device is under the protocol, and stands at its round. -/
def records : sProp 𝕄 :=
  iprop((bigSep Finset.univ fun ck : Dev nD × Fin 21 => cellInv ER (rd m) (K ck) (kcell ck))
    ∗ bigSep Finset.univ fun ck : Dev nD × Fin 21 => reached ER (kcell ck) 0)
instance records_persistent : BI.Persistent (records m K) := by unfold records; infer_instance

theorem inv_at (ck : Dev nD × Fin 21) : records m K ⊢ cellInv ER (rd m) (K ck) (kcell ck) := by
  have h : (bigSep Finset.univ fun ck : Dev nD × Fin 21 => (cellInv ER (rd m) (K ck) (kcell ck) : sProp 𝕄)) ⊢ cellInv ER (rd m) (K ck) (kcell ck) :=
    bigSep_elim (Finset.mem_univ ck)
  unfold records
  iintro ⟨HI, -⟩
  iapply h
  iexact HI
theorem reached_at (ck : Dev nD × Fin 21) : records m K ⊢ reached ER (kcell ck) 0 := by
  have h : (bigSep Finset.univ fun ck : Dev nD × Fin 21 => (reached ER (kcell ck) 0 : sProp 𝕄)) ⊢ reached ER (kcell ck) 0 :=
    bigSep_elim (Finset.mem_univ ck)
  unfold records
  iintro ⟨-, HR⟩
  iapply h
  iexact HR

/-- What a device still owes, whatever it has waited for. -/
def debt (c : Dev nD) (O : CellTallies nD τ sig Unit) : sProp 𝕄 := iprop(∃ W, owes (c : Thread nD τ) O W)

/-! ## Signals, copies, waits -/

section Comm

theorem wp_sig {α : Type} {Q : α → sProp 𝕄} {k : PUnit → Prog (TpuEff nD τ sig (Elt F) Λ₀ .tc) α} (c n p : Dev nD) (hn : n = p) (d : Bool) (O : CellTallies nD τ sig Unit) (a : ℕ) (ha : a = 1) :
    iprop(records m K ∗ debt c (O + oweB p) ∗ dutyTok ER (kcell (p, 20)) 0 d ∗ pay m p 20 d)
      ⊢ iprop((debt c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn; subst ha
  unfold debt
  iintro ⟨#HR, ⟨%W, HO⟩, Ht, Hp⟩ Hk
  iapply (Rounds.wp_signal 𝒱₀ ER (rd m) (c : Thread nD τ) none (dst := (n : Thread nD τ)) (sem := barS) (κ := K (n, 20)) (r := 0) (d := d)
      (by rw [show (((n : Thread nD τ), SemLoc.reg barS) : GSem nD τ sig) = kcell (n, 20) from rfl, duties_at]; exact Finset.mem_univ _)
      (by rw [show (((n : Thread nD τ), SemLoc.reg barS) : GSem nD τ sig) = kcell (n, 20) from rfl, amount_at]; rfl) () O rfl) $$ [HO Ht Hp]
  · isplitr; · iapply (inv_at m K (n, 20)); iexact HR
    isplitl [HO]; · iexact HO
    isplitl [Ht]; · iexact Ht
    isplitl [Hp]
    · rw [show (((n : Thread nD τ), SemLoc.reg barS) : GSem nD τ sig) = kcell (n, 20) from rfl, payload_at]; iexact Hp
    · iapply (reached_at m K (n, 20)); iexact HR
  iintro HO
  iapply Hk
  iexists W; iexact HO

theorem wp_snd {α : Type} {Q : α → sProp 𝕄} {k : PUnit → Prog (TpuEff nD τ sig (Elt F) Λ₀ .tc) α} (c n p : Dev nD) (hn : n = p) (ks kr : Fin 21) (hks : ks.val < 12) (hkr : kr.val < 12) (sS sR : DmaSem sig)
    (hsS : csem ks = .dma sS) (hsR : csem kr = .dma sR) {src dst : Memref sig .tc .vmem S128x1024 .bf16}
    {hsc : (dst : Memref sig (Dev.tc n : Thread nD τ).2.kind .vmem S128x1024 .bf16).view.ref.isScScratch = false}
    {hsrc : src.view.WordExact} {hdst : dst.view.WordExact} {hsem : DmaTarget.Typed .vmem (.dma sR) (.remote (Dev.tc n : Thread nD τ) dst (.dma sS) hsc)}
    (q : PosShare TreeShare) (f : Buf (Elt F) (src.view.loc (c : Thread nD τ))) (O : CellTallies nD τ sig Unit) (hN : dst.view.dmaCredit = N₁)
    (hp₁ : pts c src q f ⊢ pay m c ks false)
    (hp₂ : ∀ fd, pts p dst fullShare (dst.view.write (Elt F) fd (src.view.read (Elt F) f) Finset.univ) ⊢ pay m p kr false) :
    iprop(records m K ∗ pts c src q f ∗ anyPts p dst ∗ debt c (O + oweR p kr) ∗ dutyTok ER (kcell (c, ks)) 0 false ∗ dutyTok ER (kcell (p, kr)) 0 false)
      ⊢ iprop(((cred (tallyAt (kcell (c, ks)) () (amountOf ks)) ∗ debt c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  have hS : kcell (c, ks) = ((c : Thread nD τ), SemLoc.dma sS) := by rw [← hsS]
  have hR : kcell (n, kr) = ((n : Thread nD τ), SemLoc.dma sR) := by rw [← hsR]
  have k20 : ∀ k : Fin 21, k.val < 12 → false ∈ dutiesOf k := fun k h => by
    unfold dutiesOf; rw [if_neg (by rintro rfl; exact absurd h (by decide))]; exact Finset.mem_singleton_self _
  have ha : ∀ k : Fin 21, k.val < 12 → amountOf k = N₁ := fun k h => if_pos h
  rw [ha ks hks]
  unfold debt anyPts
  iintro ⟨#HR, Hs, ⟨%fd, Hd⟩, ⟨%W, HO⟩, Ht₁, Ht₂⟩ Hk
  iapply (Rounds.wp_send_pointsTo 𝒱₀ ER (rd m) (c : Thread nD τ) none (sem := .dma sR) (κ₁ := K (c, ks)) (κ₂ := K (n, kr)) (fs := f)
    (r₁ := 0) (r₂ := 0) (d₁ := false) (d₂ := false) (fd := fd)
    (by rw [← hS, duties_at]; exact k20 ks hks) (by rw [← hR, duties_at]; exact k20 kr hkr)
    () () N₁ hN (by rw [← hS, amount_at]; exact ha ks hks) (by rw [← hR, amount_at]; exact ha kr hkr) O rfl (W := W)
    (by rw [← hS, payload_at]; exact hp₁)
    (by rw [← hR, payload_at]; exact hp₂ fd)) $$ [Hs Hd HO Ht₁ Ht₂]
  · isplitr; · rw [← hS]; iapply (inv_at m K (c, ks)); iexact HR
    isplitr; · rw [← hR]; iapply (inv_at m K (n, kr)); iexact HR
    isplitl [Hs]; · iexact Hs
    isplitl [Hd]; · iexact Hd
    isplitl [HO]; · rw [← hR]; iexact HO
    isplitl [Ht₁]; · rw [← hS]; iexact Ht₁
    isplitr; · rw [← hS]; iapply (reached_at m K (c, ks)); iexact HR
    isplitl [Ht₂]; · rw [← hR]; iexact Ht₂
    rw [← hR]; iapply (reached_at m K (n, kr)); iexact HR
  iintro ⟨Hc, HO⟩
  iapply Hk
  isplitl [Hc]; · rw [hS]; iexact Hc
  iexists W; iexact HO

theorem wp_cpy {α : Type} {Q : α → sProp 𝕄} {k : PUnit → Prog (TpuEff nD τ sig (Elt F) Λ₀ .tc) α} (c : Dev nD) (j : Fin 8) (ks : Fin 21) (hks : amountOf ks = N₂) (hk20 : ks ≠ 20) (hpay : pay m c ks false = storePay m c j) (sS : DmaSem sig)
    (hsS : csem ks = .dma sS) {src : Memref sig .tc .vmem S128x256 .bf16} {dst : Memref sig .tc .hbm S128x256 .bf16} (hsrc' : src = bB j) (hdst' : dst = oB (dest c j))
    {hsrc : src.view.WordExact} {hdst : dst.view.WordExact} {hsem : DmaTarget.Typed (nD := nD) .vmem (.dma sS) (DmaTarget.here (p := (Dev.tc c : Thread nD τ).2) dst)} :
    iprop(records m K ∗ pts c (bB j) fullShare (bufC m c) ∗ anyPts c (oB (dest c j)) ∗ dutyTok ER (kcell (c, ks)) 0 false)
      ⊢ iprop((cred (tallyAt (kcell (c, ks)) () (amountOf ks)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma sS) hsrc hdst hsem) k) Q) := by
  subst hsrc'; subst hdst'
  have hS : kcell (c, ks) = ((c : Thread nD τ), SemLoc.dma sS) := by rw [← hsS]
  rw [hks]
  unfold anyPts
  iintro ⟨#HR, Hs, ⟨%fd, Hd⟩, Ht⟩ Hk
  iapply (Rounds.wp_copy_pointsTo 𝒱₀ ER (rd m) (c : Thread nD τ) none (κ := K (c, ks)) (fs := bufC m c) (r := 0) (d := false) (fd := fd)
    (by rw [← hS, duties_at]; unfold dutiesOf; rw [if_neg hk20]; exact Finset.mem_singleton_self _)
    () N₂ rfl (by rw [← hS, amount_at]; exact hks)
    (by
      rw [← hS, payload_at, hpay]
      iintro ⟨Hd, Hs⟩
      isplitl [Hs]; · iexact Hs
      ihave Hd' := (Entails.of_eq (pts_write c (oB (dest c j)) fullShare fd (outC m c) _ ((read_oB m c j).trans (read_bB m c j).symm))) $$ Hd
      iexact Hd')) $$ [Hs Hd Ht]
  · isplitr; · rw [← hS]; iapply (inv_at m K (c, ks)); iexact HR
    isplitl [Hs]; · iexact Hs
    isplitl [Hd]; · iexact Hd
    isplitl [Ht]; · rw [← hS]; iexact Ht
    rw [← hS]; iapply (reached_at m K (c, ks)); iexact HR
  iintro Hc
  iapply Hk
  rw [hS]; iexact Hc

theorem wp_rest {α : Type} {Q : α → sProp 𝕄} {k : PUnit → Prog (TpuEff nD τ sig (Elt F) Λ₀ .tc) α} (c : Dev nD) (ks : Fin 21) (hk20 : ks ≠ 20) (sm : DmaSem sig) (hs : csem ks = .dma sm) (n : ℕ) (hl : lvl ks ≤ n)
    (O : CellTallies nD τ sig Unit) (hO : Above n O) {sp sp' : Space} {s s' : Shape} {e e' : EltTy}
    {src : Memref sig .tc sp' s' e'} {dst : Memref sig .tc sp s e} {hsrc : src.view.WordExact} {hdst : dst.view.WordExact} (ha : dst.view.dmaCredit = amountOf ks) :
    iprop(records m K ∗ levAts L lv ∗ cred (tallyAt (kcell (c, ks)) () (amountOf ks)) ∗ debt c O ∗ atPos ER (kcell (c, ks)) 0 ∅ 0)
      ⊢ iprop(((debt c O ∗ semVal (kcell (c, ks)) 0 ∗ pay m c ks false) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  have hS : kcell (c, ks) = ((c : Thread nD τ), SemLoc.dma sm) := by rw [← hs]
  have hc : cidx (SemLoc.dma sm) = ks := by rw [← hs, cidx_csem]
  rw [← ha]
  unfold debt
  iintro ⟨#HR, #Hlev, Hc, ⟨%W, HO⟩, Hat⟩ Hk
  iapply (Rounds.wp_wait_rest_token 𝒱₀ ER (rd m) (c : Thread nD τ) none (κ := K (c, ks))
    (wpE_waitDma2_eq 𝒱₀ (c : Thread nD τ) none Set.univ) (Set.mem_univ _) () (O := O) (W := W) (R := 0) (m := 0) (T := ∅)
    (by rw [← hS, expect_at, if_neg hk20, Nat.zero_add]; exact ha)) $$ [Hc HO Hat]
  · isplitr; · rw [← hS]; iapply (inv_at m K (c, ks)); iexact HR
    isplitl [Hc]; · rw [← hS]; iexact Hc
    isplitl [HO]; · iexact HO
    isplitr; · iapply (mayWait_above (F := F) c (SemLoc.dma sm) n O (by rw [hc]; exact hl) hO); iexact Hlev
    rw [← hS]; iexact Hat
  rw [← hS]
  iintro ⟨HO, Hat, -, Hp⟩
  imod (Rounds.cell_close ER (rd m) (Set.mem_univ (K (c, ks))) (fun h => h) (R := 0 + 1) (duties_later m (kcell (c, ks)))) $$ [Hat] with Hz
  · isplitr; · iapply (inv_at m K (c, ks)); iexact HR
    iexact Hat
  ihave Hp' := (Entails.of_eq (rest_at m c ks hk20)) $$ Hp
  iapply Hk
  isplitl [HO]; · iexists _; iexact HO
  isplitl [Hz]; · iexact Hz
  iexact Hp'

theorem wp_bar {α : Type} {Q : α → sProp 𝕄} {k : PUnit → Prog (TpuEff nD τ sig (Elt F) Λ₀ .tc) α} (c : Dev nD) (O : CellTallies nD τ sig Unit) (hO : Above 1 O) (a : ℕ) (ha : a = 2) :
    iprop(records m K ∗ levAts L lv ∗ cred (tallyAt (kcell (c, 20)) () 2) ∗ debt c O ∗ atPos ER (kcell (c, 20)) 0 ∅ 0)
      ⊢ iprop(((debt c O ∗ semVal (kcell (c, 20)) 0 ∗ fromNxt (nxt c) ∗ fromPrv (prv c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  have hS : kcell (c, 20) = ((c : Thread nD τ), SemLoc.reg barS) := rfl
  unfold debt
  iintro ⟨#HR, #Hlev, Hc, ⟨%W, HO⟩, Hat⟩ Hk
  iapply (Rounds.wp_wait_rest_token 𝒱₀ ER (rd m) (c : Thread nD τ) none (κ := K (c, 20))
    (wpE_semWait_eq 𝒱₀ (c : Thread nD τ) none Set.univ) (Set.mem_univ _) () (O := O) (W := W) (R := 0) (m := 0) (T := ∅)
    (by rw [← hS, expect_at]; rfl)) $$ [Hc HO Hat]
  · isplitr; · rw [← hS]; iapply (inv_at m K (c, 20)); iexact HR
    isplitl [Hc]; · rw [← hS]; iexact Hc
    isplitl [HO]; · iexact HO
    isplitr; · iapply (mayWait_above (F := F) c (SemLoc.reg barS) 1 O (by decide) hO); iexact Hlev
    rw [← hS]; iexact Hat
  rw [← hS]
  iintro ⟨HO, Hat, -, Hp⟩
  imod (Rounds.cell_close ER (rd m) (Set.mem_univ (K (c, 20))) (fun h => h) (R := 0 + 1) (duties_later m (kcell (c, 20)))) $$ [Hat] with Hz
  · isplitr; · iapply (inv_at m K (c, 20)); iexact HR
    iexact Hat
  ihave Hp' := (Entails.of_eq (rest_bar m c)) $$ Hp
  icases Hp' with ⟨H1, H2⟩
  iapply Hk
  isplitl [HO]; · iexists _; iexact HO
  isplitl [Hz]; · iexact Hz
  isplitl [H1]; · iexact H1
  iexact H2

end Comm

/-! ## Loads and stores -/

omit [FloatOps F] in
theorem set_lo (M : Memref sig .tc .vmem S2x128x1024 .bf16) : M.view.setOn rh0.toLoadRect.set = (lo M).view.set :=
  ((View.set_reshape (M.view.slice rh0) (squeezes_S1x128x1024_S128x1024).numel_eq).trans (View.set_slice M.view rh0)).symm
omit [FloatOps F] in
theorem set_hi (M : Memref sig .tc .vmem S2x128x1024 .bf16) : M.view.setOn rh1.toLoadRect.set = (hi M).view.set :=
  ((View.set_reshape (M.view.slice rh1) (squeezes_S1x128x1024_S128x1024).numel_eq).trans (View.set_slice M.view rh1)).symm
omit [FloatOps F] in
theorem set_bB (b : Fin 8) : bM.view.setOn (rb b).toLoadRect.set = (bB b).view.set := (View.set_slice bM.view (rb b)).symm

theorem wp_ld_lo {α : Type} {Q : α → sProp 𝕄} (c : Dev nD) (M : Memref sig .tc .vmem S2x128x1024 .bf16) (q : PosShare TreeShare) (f : Buf (Elt F) (M.view.loc (c : Thread nD τ)))
    {hl : M.view.LoadsAt rh0.toLoadRect} {k : (rh0.toLoadRect.shape.Idx → Elt F .bf16) → Prog (TpuEff nD τ sig (Elt F) Λ₀ .tc) α} :
    pts c (lo M) q f
      ⊢ iprop((pts c (lo M) q f -∗ wp frame (wpE (defs₀ (F := F)) 𝒱₀ (c : Thread nD τ) none) Set.univ (k (M.view.readAt (Elt F) rh0.toLoadRect f)) Q)
          -∗ wp frame (wpE (defs₀ (F := F)) 𝒱₀ (c : Thread nD τ) none) Set.univ (.op (.load M rh0.toLoadRect hl) k) Q) :=
  wp_load 𝒱₀ (c : Thread nD τ) none Set.univ (m := M) (r := rh0.toLoadRect) (S := (lo M).view.set) (by rw [set_lo])

theorem wp_ld_hi {α : Type} {Q : α → sProp 𝕄} (c : Dev nD) (M : Memref sig .tc .vmem S2x128x1024 .bf16) (q : PosShare TreeShare) (f : Buf (Elt F) (M.view.loc (c : Thread nD τ)))
    {hl : M.view.LoadsAt rh1.toLoadRect} {k : (rh1.toLoadRect.shape.Idx → Elt F .bf16) → Prog (TpuEff nD τ sig (Elt F) Λ₀ .tc) α} :
    pts c (hi M) q f
      ⊢ iprop((pts c (hi M) q f -∗ wp frame (wpE (defs₀ (F := F)) 𝒱₀ (c : Thread nD τ) none) Set.univ (k (M.view.readAt (Elt F) rh1.toLoadRect f)) Q)
          -∗ wp frame (wpE (defs₀ (F := F)) 𝒱₀ (c : Thread nD τ) none) Set.univ (.op (.load M rh1.toLoadRect hl) k) Q) :=
  wp_load 𝒱₀ (c : Thread nD τ) none Set.univ (m := M) (r := rh1.toLoadRect) (S := (hi M).view.set) (by rw [set_hi])

theorem wp_ld_b {α : Type} {Q : α → sProp 𝕄} (c : Dev nD) (j : Fin 8) (q : PosShare TreeShare) (f : Buf (Elt F) (bM.view.loc (c : Thread nD τ)))
    {hl : bM.view.LoadsAt (rb j).toLoadRect} {k : ((rb j).toLoadRect.shape.Idx → Elt F .bf16) → Prog (TpuEff nD τ sig (Elt F) Λ₀ .tc) α} :
    pts c (bB j) q f
      ⊢ iprop((pts c (bB j) q f -∗ wp frame (wpE (defs₀ (F := F)) 𝒱₀ (c : Thread nD τ) none) Set.univ (k (bM.view.readAt (Elt F) (rb j).toLoadRect f)) Q)
          -∗ wp frame (wpE (defs₀ (F := F)) 𝒱₀ (c : Thread nD τ) none) Set.univ (.op (.load bM (rb j).toLoadRect hl) k) Q) :=
  wp_load 𝒱₀ (c : Thread nD τ) none Set.univ (m := bM) (r := (rb j).toLoadRect) (S := (bB j).view.set) (by rw [set_bB])

theorem wp_ld_x0 {α : Type} {Q : α → sProp 𝕄} (c : Dev nD) (q : PosShare TreeShare) (f : Buf (Elt F) (xM.view.loc (c : Thread nD τ)))
    {hl : xM.view.LoadsAt rx0.toLoadRect} {k : (rx0.toLoadRect.shape.Idx → Elt F .bf16) → Prog (TpuEff nD τ sig (Elt F) Λ₀ .tc) α} :
    pts c xM q f
      ⊢ iprop((pts c xM q f -∗ wp frame (wpE (defs₀ (F := F)) 𝒱₀ (c : Thread nD τ) none) Set.univ (k (xM.view.readAt (Elt F) rx0.toLoadRect f)) Q)
          -∗ wp frame (wpE (defs₀ (F := F)) 𝒱₀ (c : Thread nD τ) none) Set.univ (.op (.load xM rx0.toLoadRect hl) k) Q) :=
  wp_load 𝒱₀ (c : Thread nD τ) none Set.univ (m := xM) (r := rx0.toLoadRect) (S := xM.view.set) (by rw [show xM.view.set = Finset.univ from View.set_whole _]; exact Finset.subset_univ _)

theorem wp_ld_x1 {α : Type} {Q : α → sProp 𝕄} (c : Dev nD) (q : PosShare TreeShare) (f : Buf (Elt F) (xM.view.loc (c : Thread nD τ)))
    {hl : xM.view.LoadsAt rx1.toLoadRect} {k : (rx1.toLoadRect.shape.Idx → Elt F .bf16) → Prog (TpuEff nD τ sig (Elt F) Λ₀ .tc) α} :
    pts c xM q f
      ⊢ iprop((pts c xM q f -∗ wp frame (wpE (defs₀ (F := F)) 𝒱₀ (c : Thread nD τ) none) Set.univ (k (xM.view.readAt (Elt F) rx1.toLoadRect f)) Q)
          -∗ wp frame (wpE (defs₀ (F := F)) 𝒱₀ (c : Thread nD τ) none) Set.univ (.op (.load xM rx1.toLoadRect hl) k) Q) :=
  wp_load 𝒱₀ (c : Thread nD τ) none Set.univ (m := xM) (r := rx1.toLoadRect) (S := xM.view.set) (by rw [show xM.view.set = Finset.univ from View.set_whole _]; exact Finset.subset_univ _)

theorem wp_ld_w {α : Type} {Q : α → sProp 𝕄} (c : Dev nD) (q : PosShare TreeShare) (f : Buf (Elt F) (wM.view.loc (c : Thread nD τ)))
    {hl : wM.view.LoadsAt rw0.toLoadRect} {k : (rw0.toLoadRect.shape.Idx → Elt F .bf16) → Prog (TpuEff nD τ sig (Elt F) Λ₀ .tc) α} :
    pts c wM q f
      ⊢ iprop((pts c wM q f -∗ wp frame (wpE (defs₀ (F := F)) 𝒱₀ (c : Thread nD τ) none) Set.univ (k (wM.view.readAt (Elt F) rw0.toLoadRect f)) Q)
          -∗ wp frame (wpE (defs₀ (F := F)) 𝒱₀ (c : Thread nD τ) none) Set.univ (.op (.load wM rw0.toLoadRect hl) k) Q) :=
  wp_load 𝒱₀ (c : Thread nD τ) none Set.univ (m := wM) (r := rw0.toLoadRect) (S := wM.view.set) (by rw [show wM.view.set = Finset.univ from View.set_whole _]; exact Finset.subset_univ _)

theorem wp_ld_a {α : Type} {Q : α → sProp 𝕄} (c : Dev nD) (q : PosShare TreeShare) (f : Buf (Elt F) (aM.view.loc (c : Thread nD τ)))
    {hl : aM.view.LoadsAt ra0.toLoadRect} {k : (ra0.toLoadRect.shape.Idx → Elt F .bf16) → Prog (TpuEff nD τ sig (Elt F) Λ₀ .tc) α} :
    pts c aM q f
      ⊢ iprop((pts c aM q f -∗ wp frame (wpE (defs₀ (F := F)) 𝒱₀ (c : Thread nD τ) none) Set.univ (k (aM.view.readAt (Elt F) ra0.toLoadRect f)) Q)
          -∗ wp frame (wpE (defs₀ (F := F)) 𝒱₀ (c : Thread nD τ) none) Set.univ (.op (.load aM ra0.toLoadRect hl) k) Q) :=
  wp_load 𝒱₀ (c : Thread nD τ) none Set.univ (m := aM) (r := ra0.toLoadRect) (S := aM.view.set) (by rw [show aM.view.set = Finset.univ from View.set_whole _]; exact Finset.subset_univ _)

theorem wp_ld_d {α : Type} {Q : α → sProp 𝕄} (c : Dev nD) (q : PosShare TreeShare) (f : Buf (Elt F) (dM.view.loc (c : Thread nD τ)))
    {hl : dM.view.LoadsAt ra0.toLoadRect} {k : (ra0.toLoadRect.shape.Idx → Elt F .bf16) → Prog (TpuEff nD τ sig (Elt F) Λ₀ .tc) α} :
    pts c dM q f
      ⊢ iprop((pts c dM q f -∗ wp frame (wpE (defs₀ (F := F)) 𝒱₀ (c : Thread nD τ) none) Set.univ (k (dM.view.readAt (Elt F) ra0.toLoadRect f)) Q)
          -∗ wp frame (wpE (defs₀ (F := F)) 𝒱₀ (c : Thread nD τ) none) Set.univ (.op (.load dM ra0.toLoadRect hl) k) Q) :=
  wp_load 𝒱₀ (c : Thread nD τ) none Set.univ (m := dM) (r := ra0.toLoadRect) (S := dM.view.set) (by rw [show dM.view.set = Finset.univ from View.set_whole _]; exact Finset.subset_univ _)

omit [FloatOps F] in
theorem acc_lo : (mM.access rh0).setOn Finset.univ = (lo mM).view.set := (View.set_slice mM.view rh0).trans (set_lo mM)
theorem write_lo (c : Dev nD) (f : Buf (Elt F) (mM.view.loc (c : Thread nD τ))) :
    (mM.view.loc (c : Thread nD τ) ↦[(lo mM).view.set]{fullShare} ((mM.access rh0).write (Elt F) f (k0_pay1 (half m c 0)) Finset.univ) : sProp 𝕄)
      = pts c (lo mM) fullShare (pair m c) := by
  have h := pts_write c (mM.slice rh0 (fun _ => rfl)) fullShare f (pair m c) (k0_pay1 (half m c 0)) (store_lo m c)
  unfold pts at h ⊢
  have hs : (mM.slice rh0 (fun _ => rfl)).view.set = (lo mM).view.set := acc_lo
  rw [hs] at h
  exact h
theorem wp_st_lo {α : Type} {Q : α → sProp 𝕄} (c : Dev nD)
    {hs} {hm} {k : PUnit → Prog (TpuEff nD τ sig (Elt F) Λ₀ .tc) α} :
    anyPts c (lo mM)
      ⊢ iprop((pts c (lo mM) fullShare (pair m c) -∗ wp frame (wpE (defs₀ (F := F)) 𝒱₀ (c : Thread nD τ) none) Set.univ (k ⟨⟩) Q)
          -∗ wp frame (wpE (defs₀ (F := F)) 𝒱₀ (c : Thread nD τ) none) Set.univ (.op (.store mM rh0 (k0_pay1 (half m c 0)) Finset.univ hs hm) k) Q) := by
  unfold anyPts
  iintro ⟨%f, H⟩ Hk
  iapply (wp_store 𝒱₀ (c : Thread nD τ) none Set.univ (m := mM) (r := rh0) (Mk := Finset.univ) (S := (lo mM).view.set) (by rw [acc_lo])) $$ [H]
  · iexact H
  iintro H
  iapply Hk
  ihave H' := (Entails.of_eq (write_lo m c f)) $$ H
  iexact H'

omit [FloatOps F] in
theorem acc_hi : (mM.access rh1).setOn Finset.univ = (hi mM).view.set := (View.set_slice mM.view rh1).trans (set_hi mM)
theorem write_hi (c : Dev nD) (f : Buf (Elt F) (mM.view.loc (c : Thread nD τ))) :
    (mM.view.loc (c : Thread nD τ) ↦[(hi mM).view.set]{fullShare} ((mM.access rh1).write (Elt F) f (k0_pay2 (half m c 1)) Finset.univ) : sProp 𝕄)
      = pts c (hi mM) fullShare (pair m c) := by
  have h := pts_write c (mM.slice rh1 (fun _ => rfl)) fullShare f (pair m c) (k0_pay2 (half m c 1)) (store_hi m c)
  unfold pts at h ⊢
  have hs : (mM.slice rh1 (fun _ => rfl)).view.set = (hi mM).view.set := acc_hi
  rw [hs] at h
  exact h
theorem wp_st_hi {α : Type} {Q : α → sProp 𝕄} (c : Dev nD)
    {hs} {hm} {k : PUnit → Prog (TpuEff nD τ sig (Elt F) Λ₀ .tc) α} :
    anyPts c (hi mM)
      ⊢ iprop((pts c (hi mM) fullShare (pair m c) -∗ wp frame (wpE (defs₀ (F := F)) 𝒱₀ (c : Thread nD τ) none) Set.univ (k ⟨⟩) Q)
          -∗ wp frame (wpE (defs₀ (F := F)) 𝒱₀ (c : Thread nD τ) none) Set.univ (.op (.store mM rh1 (k0_pay2 (half m c 1)) Finset.univ hs hm) k) Q) := by
  unfold anyPts
  iintro ⟨%f, H⟩ Hk
  iapply (wp_store 𝒱₀ (c : Thread nD τ) none Set.univ (m := mM) (r := rh1) (Mk := Finset.univ) (S := (hi mM).view.set) (by rw [acc_hi])) $$ [H]
  · iexact H
  iintro H
  iapply Hk
  ihave H' := (Entails.of_eq (write_hi m c f)) $$ H
  iexact H'

omit [FloatOps F] in
theorem acc_b (j : Fin 8) : (bM.access (rb j)).setOn Finset.univ = (bB j).view.set := rfl
theorem wp_st_b {α : Type} {Q : α → sProp 𝕄} (c : Dev nD) (j : Fin 8)
    {hs} {hm} {k : PUnit → Prog (TpuEff nD τ sig (Elt F) Λ₀ .tc) α} :
    anyPts c (bB j)
      ⊢ iprop((pts c (bB j) fullShare (bufC m c) -∗ wp frame (wpE (defs₀ (F := F)) 𝒱₀ (c : Thread nD τ) none) Set.univ (k ⟨⟩) Q)
          -∗ wp frame (wpE (defs₀ (F := F)) 𝒱₀ (c : Thread nD τ) none) Set.univ (.op (.store bM (rb j) (prodAt m c j) Finset.univ hs hm) k) Q) := by
  unfold anyPts
  iintro ⟨%f, H⟩ Hk
  iapply (wp_store 𝒱₀ (c : Thread nD τ) none Set.univ (m := bM) (r := (rb j)) (Mk := Finset.univ) (S := (bB j).view.set) (by rw [acc_b])) $$ [H]
  · iexact H
  iintro H
  iapply Hk
  ihave H' := (Entails.of_eq (pts_write c (bB j) fullShare f (bufC m c) (prodAt m c j) (read_bB m c j))) $$ H
  iexact H'

end Cert.GatherProof

end
-- ==== Proof.Parts.lean ====
/- The kernel's body part by part: what each part takes from what the device holds, and what it gives back. Every part
   runs at a symbolic device `c`. -/
module

public import proofs.«01_k».proof.Proof.Steps

@[expose] public section

noncomputable section

namespace Cert.GatherProof

open Cert.KernelIdeal Cert.KernelIdeal.Gen
open Idealize.ShloMosaic
open Idealize.ShloMosaic.TcCoe

open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem opp_nxt : ∀ c : Dev nD, opp (nxt c) = prv c := by decide
theorem opp_prv : ∀ c : Dev nD, opp (prv c) = nxt c := by decide

theorem anyPts_intro {sp : Space} {s : Shape} {e : EltTy} (c : Dev nD) (M : Memref sig .tc sp s e) (f : Buf (Elt F) (M.view.loc (c : Thread nD τ))) :
    (pts c M fullShare f : sProp 𝕄) ⊢ anyPts c M := by
  unfold anyPts
  iintro H
  iexists f
  iexact H

omit [FloatOps F] in
theorem credit_o {off : Fin 2 → ℕ} (i) : (oM.slice (Rect.unit (s := S1024x256) off S128x256.size i) (fun _ => rfl) : Memref sig .tc .hbm S128x256 .bf16).view.dmaCredit = N₂ := rfl

theorem pay_bar (c : Dev nD) (d : Bool) : pay m c 20 d = if d then fromPrv (prv c) else fromNxt (nxt c) := rfl

/-- A whole buffer's elements in two shares. -/
theorem share2 {sp : Space} {s : Shape} {e : EltTy} (c : Dev nD) (M : Memref sig .tc sp s e) (f : Buf (Elt F) (M.view.loc (c : Thread nD τ))) :
    (pts c M fullShare f : sProp 𝕄) ⊣⊢ iprop(pts c M qA f ∗ pts c M qD f) := pointsTo_share (PosShare.mem_left_op_right fullShare)
theorem share2' {sp : Space} {s : Shape} {e : EltTy} (c : Dev nD) (M : Memref sig .tc sp s e) (f : Buf (Elt F) (M.view.loc (c : Thread nD τ))) :
    (pts c M qD f : sProp 𝕄) ⊣⊢ iprop(pts c M qB f ∗ pts c M qC f) := pointsTo_share (PosShare.mem_left_op_right fullShare.right)

variable (K : Dev nD × Fin 21 → ℕ)

set_option maxHeartbeats 1000000

theorem part1 {Q : _ → sProp 𝕄} (c : Dev nD) :
    iprop(records m K ∗ levAts L lv ∗ debt c (O₀ c) ∗ dutyTok ER (kcell (prv c, 20)) 0 false ∗ dutyTok ER (kcell (nxt c, 20)) 0 true ∗ fromNxt c ∗ fromPrv c ∗ pts c xM fullShare (xC m c) ∗ anyPts c (lo mM) ∗ anyPts c (hi mM) ∗ cred (tallyAt (kcell (c, 20)) () 2) ∗ atPos ER (kcell (c, 20)) 0 ∅ 0)
      ⊢ iprop((∀ v2 v5 v7 v9, (debt c (O₂ c) ∗ pts c xM fullShare (xC m c) ∗ pts c (lo mM) fullShare (pair m c) ∗ pts c (hi mM) fullShare (pair m c) ∗ semVal (kcell (c, 20)) 0 ∗ fromNxt (nxt c) ∗ fromPrv (prv c)) -∗ Q ⟨c, v2, v5, v7, v9⟩)
          -∗ wp frame (wpE (defs₀ (F := F)) 𝒱₀ (c : Thread nD τ) none) Set.univ (k0_part1 xM (Memref.isWhole_whole _) wM (Memref.isWhole_whole _) oM (Memref.isWhole_whole _) bM (Memref.isWhole_whole _) mM (Memref.isWhole_whole _) lM (Memref.isWhole_whole _) rM (Memref.isWhole_whole _) aM (Memref.isWhole_whole _) dM (Memref.isWhole_whole _) cc0_scratch6 cc0_scratch7 cc0_scratch8) Q) := by
  rw [k0_part1_eq_skeleton]; unfold k0_part1_skel
  simp only [semSignalWord, semWaitWord, Prog.lift, Prog.bind_op, Prog.bind_ret, Prog.pure_eq_ret, wp_deviceId]
  iintro ⟨#HR, #HL, HO, DP, DN, FN, FP, X, LO, HI, CB, T20⟩ Hk
  ihave FN := (Entails.of_eq (show fromNxt c = pay m (prv c) 20 false by rw [pay_bar, nxt_prv]; rfl)) $$ FN
  ihave FP := (Entails.of_eq (show fromPrv c = pay m (nxt c) 20 true by rw [pay_bar, prv_nxt]; rfl)) $$ FP
  iapply (wp_sig m K c _ (prv c) (dev1 c) false (O₁ c) _ (by decide)) $$ [HO DP FN]
  · isplitr; · iexact HR
    isplitl [HO]; · iexact HO
    isplitl [DP]; · iexact DP
    iexact FN
  iintro HO
  iapply (wp_sig m K c _ (nxt c) (dev2 c) true (O₂ c) _ (by decide)) $$ [HO DN FP]
  · isplitr; · iexact HR
    isplitl [HO]; · iexact HO
    isplitl [DN]; · iexact DN
    iexact FP
  iintro HO
  iapply (wp_ld_x0 c fullShare (xC m c)) $$ [X]
  · iexact X
  iintro X
  rw [load_x0]
  ihave LO' := (Entails.of_eq (show anyPts c (lo mM) = iprop(∃ f, pts c (lo mM) fullShare f) from rfl)) $$ LO
  icases LO' with ⟨%flo, LO⟩
  iapply (wp_ld_lo c mM fullShare flo) $$ [LO]
  · iexact LO
  iintro LO
  ihave LO' := (anyPts_intro c (lo mM) flo) $$ LO
  iapply (wp_st_lo m c) $$ [LO']
  · iexact LO'
  iintro LO
  iapply (wp_ld_x1 c fullShare (xC m c)) $$ [X]
  · iexact X
  iintro X
  rw [load_x1]
  ihave HI' := (Entails.of_eq (show anyPts c (hi mM) = iprop(∃ f, pts c (hi mM) fullShare f) from rfl)) $$ HI
  icases HI' with ⟨%fhi, HI⟩
  iapply (wp_ld_hi c mM fullShare fhi) $$ [HI]
  · iexact HI
  iintro HI
  ihave HI' := (anyPts_intro c (hi mM) fhi) $$ HI
  iapply (wp_st_hi m c) $$ [HI']
  · iexact HI'
  iintro HI
  iapply (wp_bar m K c (O₂ c) (above₂ c) _ (by decide)) $$ [CB HO T20]
  · isplitr; · iexact HR
    isplitr; · iexact HL
    isplitl [CB]; · iexact CB
    isplitl [HO]; · iexact HO
    iexact T20
  iintro ⟨HO, Z, GN, GP⟩
  rw [wp_ret]; imodintro
  ispecialize Hk $$ %_ %_ %_ %_
  iapply Hk
  isplitl [HO]; · iexact HO
  isplitl [X]; · iexact X
  isplitl [LO]; · iexact LO
  isplitl [HI]; · iexact HI
  isplitl [Z]; · iexact Z
  isplitl [GN]; · iexact GN
  iexact GP

theorem part2 {Q : _ → sProp 𝕄} (c : Dev nD) (v5 v7 : BitVec 32) :
    iprop(records m K ∗ debt c (O₂ c) ∗ pts c (lo mM) qA (pair m c) ∗ pts c (hi mM) qA (pair m c) ∗ anyPts (nxt c) (lo lM) ∗ anyPts (prv c) (hi rM) ∗ dutyTok ER (kcell (c, 0)) 0 false ∗ dutyTok ER (kcell (nxt c, 6)) 0 false ∗ dutyTok ER (kcell (c, 1)) 0 false ∗ dutyTok ER (kcell (prv c, 7)) 0 false)
      ⊢ iprop(((debt c (O₄ c) ∗ cred (tallyAt (kcell (c, 0)) () (amountOf 0)) ∗ cred (tallyAt (kcell (c, 1)) () (amountOf 1))) -∗ Q ⟨⟩)
          -∗ wp frame (wpE (defs₀ (F := F)) 𝒱₀ (c : Thread nD τ) none) Set.univ (k0_part2 xM (Memref.isWhole_whole _) wM (Memref.isWhole_whole _) oM (Memref.isWhole_whole _) bM (Memref.isWhole_whole _) mM (Memref.isWhole_whole _) lM (Memref.isWhole_whole _) rM (Memref.isWhole_whole _) aM (Memref.isWhole_whole _) dM (Memref.isWhole_whole _) cc0_scratch6 cc0_scratch7 cc0_scratch8 c v5 v7) Q) := by
  rw [k0_part2_eq_skeleton]; unfold k0_part2_skel
  simp only [semSignalWord, semWaitWord, Prog.lift, Prog.bind_op, Prog.bind_ret, Prog.pure_eq_ret, wp_deviceId]
  iintro ⟨#HR, HO, MA, NA, E0, E1, D0, D6, D1, D7⟩ Hk
  iapply (wp_snd m K c _ (nxt c) (dev3 c) 0 6 (by decide) (by decide) _ _ rfl rfl qA (pair m c) (O₃ c) (src := lo mM) (dst := lo lM) rfl (Entails.of_eq (show pts c (lo mM) qA (pair m c) = pay m c 0 false from rfl)) (fun fd => Entails.of_eq (pts_write (nxt c) (lo lM) fullShare fd _ _ (by rw [prv_nxt]; exact (read_lo_l m c).trans (read_lo_m m c).symm)))) $$ [MA E0 HO D0 D6]
  · isplitr; · iexact HR
    isplitl [MA]; · iexact MA
    isplitl [E0]; · iexact E0
    isplitl [HO]; · iexact HO
    isplitl [D0]; · iexact D0
    iexact D6
  iintro ⟨C0, HO⟩
  iapply (wp_snd m K c _ (prv c) (dev4 c) 1 7 (by decide) (by decide) _ _ rfl rfl qA (pair m c) (O₄ c) (src := hi mM) (dst := hi rM) rfl (Entails.of_eq (show pts c (hi mM) qA (pair m c) = pay m c 1 false from rfl)) (fun fd => Entails.of_eq (pts_write (prv c) (hi rM) fullShare fd _ _ (by rw [nxt_prv]; exact (read_hi_r m c).trans (read_hi_m m c).symm)))) $$ [NA E1 HO D1 D7]
  · isplitr; · iexact HR
    isplitl [NA]; · iexact NA
    isplitl [E1]; · iexact E1
    isplitl [HO]; · iexact HO
    isplitl [D1]; · iexact D1
    iexact D7
  iintro ⟨C1, HO⟩
  rw [wp_ret]; imodintro
  iapply Hk
  isplitl [HO]; · iexact HO
  isplitl [C0]; · iexact C0
  iexact C1

theorem part3 {Q : _ → sProp 𝕄} (c : Dev nD) (v2 v5 : BitVec 32) :
    iprop(records m K ∗ debt c (O₄ c) ∗ pts c (hi mM) qB (pair m c) ∗ pts c (lo mM) qB (pair m c) ∗ anyPts (nxt c) (hi lM) ∗ anyPts (prv c) (lo rM) ∗ dutyTok ER (kcell (c, 2)) 0 false ∗ dutyTok ER (kcell (nxt c, 8)) 0 false ∗ dutyTok ER (kcell (c, 3)) 0 false ∗ dutyTok ER (kcell (prv c, 9)) 0 false ∗ pts c wM fullShare (wC m c) ∗ pts c (lo mM) qC (pair m c) ∗ pts c (hi mM) qC (pair m c) ∗ anyPts c (bB 0) ∗ anyPts c (oB (dest c 0)) ∗ dutyTok ER (kcell (c, 12)) 0 false)
      ⊢ iprop(((debt c (O₆ c) ∗ cred (tallyAt (kcell (c, 2)) () (amountOf 2)) ∗ cred (tallyAt (kcell (c, 3)) () (amountOf 3)) ∗ pts c wM fullShare (wC m c) ∗ pts c (lo mM) qC (pair m c) ∗ pts c (hi mM) qC (pair m c) ∗ cred (tallyAt (kcell (c, 12)) () (amountOf 12))) -∗ Q ⟨wC m c, k0_pay5 (mM.view.readAt (Elt F) rh1.toLoadRect (pair m c))⟩)
          -∗ wp frame (wpE (defs₀ (F := F)) 𝒱₀ (c : Thread nD τ) none) Set.univ (k0_part3 xM (Memref.isWhole_whole _) wM (Memref.isWhole_whole _) oM (Memref.isWhole_whole _) bM (Memref.isWhole_whole _) mM (Memref.isWhole_whole _) lM (Memref.isWhole_whole _) rM (Memref.isWhole_whole _) aM (Memref.isWhole_whole _) dM (Memref.isWhole_whole _) cc0_scratch6 cc0_scratch7 cc0_scratch8 c v2 v5) Q) := by
  rw [k0_part3_eq_skeleton]; unfold k0_part3_skel
  simp only [semSignalWord, semWaitWord, Prog.lift, Prog.bind_op, Prog.bind_ret, Prog.pure_eq_ret, wp_deviceId]
  iintro ⟨#HR, HO, NB, MB, E2, E3, D2, D8, D3, D9, W, MC, NC, B0, O0, D12⟩ Hk
  iapply (wp_snd m K c _ (nxt c) (dev5 c) 2 8 (by decide) (by decide) _ _ rfl rfl qB (pair m c) (O₅ c) (src := hi mM) (dst := hi lM) rfl (Entails.of_eq (show pts c (hi mM) qB (pair m c) = pay m c 2 false from rfl)) (fun fd => Entails.of_eq (pts_write (nxt c) (hi lM) fullShare fd _ _ (by rw [prv_nxt]; exact (read_hi_l m c).trans (read_hi_m m c).symm)))) $$ [NB E2 HO D2 D8]
  · isplitr; · iexact HR
    isplitl [NB]; · iexact NB
    isplitl [E2]; · iexact E2
    isplitl [HO]; · iexact HO
    isplitl [D2]; · iexact D2
    iexact D8
  iintro ⟨C2, HO⟩
  iapply (wp_snd m K c _ (prv c) (dev6 c) 3 9 (by decide) (by decide) _ _ rfl rfl qB (pair m c) (O₆ c) (src := lo mM) (dst := lo rM) rfl (Entails.of_eq (show pts c (lo mM) qB (pair m c) = pay m c 3 false from rfl)) (fun fd => Entails.of_eq (pts_write (prv c) (lo rM) fullShare fd _ _ (by rw [nxt_prv]; exact (read_lo_r m c).trans (read_lo_m m c).symm)))) $$ [MB E3 HO D3 D9]
  · isplitr; · iexact HR
    isplitl [MB]; · iexact MB
    isplitl [E3]; · iexact E3
    isplitl [HO]; · iexact HO
    isplitl [D3]; · iexact D3
    iexact D9
  iintro ⟨C3, HO⟩
  iapply (wp_ld_w c fullShare (wC m c)) $$ [W]
  · iexact W
  iintro W
  rw [load_w]
  iapply (wp_ld_lo c mM qC (pair m c)) $$ [MC]
  · iexact MC
  iintro MC
  ihave B0' := (Entails.of_eq (show anyPts c (bB 0) = iprop(∃ f, pts c (bB 0) fullShare f) from rfl)) $$ B0
  icases B0' with ⟨%f0, B0⟩
  iapply (wp_ld_b c 0 fullShare f0) $$ [B0]
  · iexact B0
  iintro B0
  ihave B0' := (anyPts_intro c (bB 0) f0) $$ B0
  rw [pay4]
  iapply (wp_st_b m c 0) $$ [B0']
  · iexact B0'
  iintro B0
  iapply (wp_cpy m K c 0 12 rfl (by decide) rfl _ rfl rfl (off1 c)) $$ [B0 O0 D12]
  · isplitr; · iexact HR
    isplitl [B0]; · iexact B0
    isplitl [O0]; · iexact O0
    iexact D12
  iintro C12
  iapply (wp_ld_hi c mM qC (pair m c)) $$ [NC]
  · iexact NC
  iintro NC
  rw [wp_ret]; imodintro
  rw [pay3]
  iapply Hk
  isplitl [HO]; · iexact HO
  isplitl [C2]; · iexact C2
  isplitl [C3]; · iexact C3
  isplitl [W]; · iexact W
  isplitl [MC]; · iexact MC
  isplitl [NC]; · iexact NC
  iexact C12

theorem part4 {Q : _ → sProp 𝕄} (c : Dev nD) (v5 v7 : BitVec 32) :
    iprop(records m K ∗ levAts L lv ∗ debt c (O₆ c) ∗ anyPts c (bB 1) ∗ anyPts c (oB (dest c 1)) ∗ dutyTok ER (kcell (c, 13)) 0 false ∗ cred (tallyAt (kcell (c, 6)) () (amountOf 6)) ∗ atPos ER (kcell (c, 6)) 0 ∅ 0 ∗ anyPts (nxt c) aM ∗ dutyTok ER (kcell (c, 4)) 0 false ∗ dutyTok ER (kcell (nxt c, 10)) 0 false)
      ⊢ iprop((∀ v108 v109, (debt c (O₇ c) ∗ cred (tallyAt (kcell (c, 13)) () (amountOf 13)) ∗ semVal (kcell (c, 6)) 0 ∗ cred (tallyAt (kcell (c, 4)) () (amountOf 4)) ∗ pts c (lo lM) qD (pair m (prv c))) -∗ Q ⟨v108, v109⟩)
          -∗ wp frame (wpE (defs₀ (F := F)) 𝒱₀ (c : Thread nD τ) none) Set.univ (k0_part4 xM (Memref.isWhole_whole _) wM (Memref.isWhole_whole _) oM (Memref.isWhole_whole _) bM (Memref.isWhole_whole _) mM (Memref.isWhole_whole _) lM (Memref.isWhole_whole _) rM (Memref.isWhole_whole _) aM (Memref.isWhole_whole _) dM (Memref.isWhole_whole _) cc0_scratch6 cc0_scratch7 cc0_scratch8 c v5 v7 (wC m c) (k0_pay5 (mM.view.readAt (Elt F) rh1.toLoadRect (pair m c)))) Q) := by
  rw [k0_part4_eq_skeleton]; unfold k0_part4_skel
  simp only [semSignalWord, semWaitWord, Prog.lift, Prog.bind_op, Prog.bind_ret, Prog.pure_eq_ret, wp_deviceId]
  iintro ⟨#HR, #HL, HO, B1, O1, D13, C6, T6, E4, D4, D10⟩ Hk
  ihave B1' := (Entails.of_eq (show anyPts c (bB 1) = iprop(∃ f, pts c (bB 1) fullShare f) from rfl)) $$ B1
  icases B1' with ⟨%f1, B1⟩
  iapply (wp_ld_b c 1 fullShare f1) $$ [B1]
  · iexact B1
  iintro B1
  ihave B1' := (anyPts_intro c (bB 1) f1) $$ B1
  rw [pay6]
  iapply (wp_st_b m c 1) $$ [B1']
  · iexact B1'
  iintro B1
  iapply (wp_cpy m K c 1 13 rfl (by decide) rfl _ rfl rfl (off2 c)) $$ [B1 O1 D13]
  · isplitr; · iexact HR
    isplitl [B1]; · iexact B1
    isplitl [O1]; · iexact O1
    iexact D13
  iintro C13
  iapply (wp_rest m K c 6 (by decide) _ rfl 2 (by decide) (O₆ c) (above₆ c) (dst := lo lM) (rfl)) $$ [C6 HO T6]
  · isplitr; · iexact HR
    isplitr; · iexact HL
    isplitl [C6]; · iexact C6
    isplitl [HO]; · iexact HO
    iexact T6
  iintro ⟨HO, Z6, P6⟩
  ihave P6 := (Entails.of_eq (show pay m c 6 false = pts c (lo lM) fullShare (pair m (prv c)) from rfl)) $$ P6
  ihave P6 := (share2 c (lo lM) (pair m (prv c))).1 $$ P6
  icases P6 with ⟨LA, LD⟩
  iapply (wp_snd m K c _ (nxt c) (dev7 c) 4 10 (by decide) (by decide) _ _ rfl rfl qA (pair m (prv c)) (O₇ c) (src := lo lM) (dst := aM) rfl (Entails.of_eq (show pts c (lo lM) qA (pair m (prv c)) = pay m c 4 false from rfl)) (fun fd => Entails.of_eq (pts_write (nxt c) (aM) fullShare fd _ _ (by rw [opp_nxt]; exact (read_lo_l m (prv c)).symm)))) $$ [LA E4 HO D4 D10]
  · isplitr; · iexact HR
    isplitl [LA]; · iexact LA
    isplitl [E4]; · iexact E4
    isplitl [HO]; · iexact HO
    isplitl [D4]; · iexact D4
    iexact D10
  iintro ⟨C4, HO⟩
  rw [wp_ret]; imodintro
  ispecialize Hk $$ %_ %_
  iapply Hk
  isplitl [HO]; · iexact HO
  isplitl [C13]; · iexact C13
  isplitl [Z6]; · iexact Z6
  isplitl [C4]; · iexact C4
  iexact LD

theorem part5 {Q : _ → sProp 𝕄} (c : Dev nD) (v5 v108 v109 : BitVec 32) :
    iprop(records m K ∗ levAts L lv ∗ debt c (O₇ c) ∗ cred (tallyAt (kcell (c, 7)) () (amountOf 7)) ∗ atPos ER (kcell (c, 7)) 0 ∅ 0 ∗ anyPts (prv c) dM ∗ dutyTok ER (kcell (c, 5)) 0 false ∗ dutyTok ER (kcell (prv c, 11)) 0 false ∗ cred (tallyAt (kcell (c, 8)) () (amountOf 8)) ∗ atPos ER (kcell (c, 8)) 0 ∅ 0 ∗ pts c (lo lM) qD (pair m (prv c)) ∗ anyPts c (bB 2))
      ⊢ iprop((∀ v137, (debt c (0) ∗ semVal (kcell (c, 7)) 0 ∗ semVal (kcell (c, 8)) 0 ∗ cred (tallyAt (kcell (c, 5)) () (amountOf 5)) ∗ pts c (hi rM) qD (pair m (nxt c)) ∗ pts c (hi lM) fullShare (pair m (prv c)) ∗ pts c (lo lM) qD (pair m (prv c)) ∗ anyPts c (bB 2)) -∗ Q ⟨k0_pay7 (wC m c) (lM.view.readAt (Elt F) rh0.toLoadRect (pair m (prv c))), v137⟩)
          -∗ wp frame (wpE (defs₀ (F := F)) 𝒱₀ (c : Thread nD τ) none) Set.univ (k0_part5 xM (Memref.isWhole_whole _) wM (Memref.isWhole_whole _) oM (Memref.isWhole_whole _) bM (Memref.isWhole_whole _) mM (Memref.isWhole_whole _) lM (Memref.isWhole_whole _) rM (Memref.isWhole_whole _) aM (Memref.isWhole_whole _) dM (Memref.isWhole_whole _) cc0_scratch6 cc0_scratch7 cc0_scratch8 c v5 (wC m c) v108 v109) Q) := by
  rw [k0_part5_eq_skeleton]; unfold k0_part5_skel
  simp only [semSignalWord, semWaitWord, Prog.lift, Prog.bind_op, Prog.bind_ret, Prog.pure_eq_ret, wp_deviceId]
  iintro ⟨#HR, #HL, HO, C7, T7, E5, D5, D11, C8, T8, LD, B2⟩ Hk
  iapply (wp_rest m K c 7 (by decide) _ rfl 2 (by decide) (O₇ c) (above₇ c) (dst := hi rM) (rfl)) $$ [C7 HO T7]
  · isplitr; · iexact HR
    isplitr; · iexact HL
    isplitl [C7]; · iexact C7
    isplitl [HO]; · iexact HO
    iexact T7
  iintro ⟨HO, Z7, P7⟩
  ihave P7 := (Entails.of_eq (show pay m c 7 false = pts c (hi rM) fullShare (pair m (nxt c)) from rfl)) $$ P7
  ihave P7 := (share2 c (hi rM) (pair m (nxt c))).1 $$ P7
  icases P7 with ⟨RA, RD⟩
  ihave HO := (Entails.of_eq (show debt c (O₇ c) = debt c (0 + oweR (prv c) 11) by rw [zero_add]; rfl)) $$ HO
  iapply (wp_snd m K c _ (prv c) (dev8 c) 5 11 (by decide) (by decide) _ _ rfl rfl qA (pair m (nxt c)) (0) (src := hi rM) (dst := dM) rfl (Entails.of_eq (show pts c (hi rM) qA (pair m (nxt c)) = pay m c 5 false from rfl)) (fun fd => Entails.of_eq (pts_write (prv c) (dM) fullShare fd _ _ (by rw [opp_prv]; exact (read_hi_r m (nxt c)).symm)))) $$ [RA E5 HO D5 D11]
  · isplitr; · iexact HR
    isplitl [RA]; · iexact RA
    isplitl [E5]; · iexact E5
    isplitl [HO]; · iexact HO
    isplitl [D5]; · iexact D5
    iexact D11
  iintro ⟨C5, HO⟩
  iapply (wp_rest m K c 8 (by decide) _ rfl 3 (by decide) (0) (above_zero 3) (dst := hi lM) (rfl)) $$ [C8 HO T8]
  · isplitr; · iexact HR
    isplitr; · iexact HL
    isplitl [C8]; · iexact C8
    isplitl [HO]; · iexact HO
    iexact T8
  iintro ⟨HO, Z8, P8⟩
  ihave P8 := (Entails.of_eq (show pay m c 8 false = pts c (hi lM) fullShare (pair m (prv c)) from rfl)) $$ P8
  iapply (wp_ld_lo c lM qD (pair m (prv c))) $$ [LD]
  · iexact LD
  iintro LD
  ihave B2' := (Entails.of_eq (show anyPts c (bB 2) = iprop(∃ f, pts c (bB 2) fullShare f) from rfl)) $$ B2
  icases B2' with ⟨%f2, B2⟩
  iapply (wp_ld_b c 2 fullShare f2) $$ [B2]
  · iexact B2
  iintro B2
  ihave B2' := (anyPts_intro c (bB 2) f2) $$ B2
  rw [wp_ret]; imodintro
  ispecialize Hk $$ %_
  iapply Hk
  isplitl [HO]; · iexact HO
  isplitl [Z7]; · iexact Z7
  isplitl [Z8]; · iexact Z8
  isplitl [C5]; · iexact C5
  isplitl [RD]; · iexact RD
  isplitl [P8]; · iexact P8
  isplitl [LD]; · iexact LD
  iexact B2'

theorem part6 {Q : _ → sProp 𝕄} (c : Dev nD) (v5 v7 : BitVec 32) (v137 : Vec F S128x256 .bf16) :
    iprop(records m K ∗ levAts L lv ∗ debt c (0) ∗ anyPts c (bB 2) ∗ anyPts c (oB (dest c 2)) ∗ dutyTok ER (kcell (c, 14)) 0 false ∗ pts c (hi lM) fullShare (pair m (prv c)) ∗ anyPts c (bB 3) ∗ anyPts c (oB (dest c 3)) ∗ dutyTok ER (kcell (c, 15)) 0 false ∗ cred (tallyAt (kcell (c, 9)) () (amountOf 9)) ∗ atPos ER (kcell (c, 9)) 0 ∅ 0)
      ⊢ iprop(((debt c (0) ∗ cred (tallyAt (kcell (c, 14)) () (amountOf 14)) ∗ cred (tallyAt (kcell (c, 15)) () (amountOf 15)) ∗ pts c (hi lM) fullShare (pair m (prv c)) ∗ semVal (kcell (c, 9)) 0 ∗ pts c (lo rM) fullShare (pair m (nxt c))) -∗ Q ⟨⟩)
          -∗ wp frame (wpE (defs₀ (F := F)) 𝒱₀ (c : Thread nD τ) none) Set.univ (k0_part6 xM (Memref.isWhole_whole _) wM (Memref.isWhole_whole _) oM (Memref.isWhole_whole _) bM (Memref.isWhole_whole _) mM (Memref.isWhole_whole _) lM (Memref.isWhole_whole _) rM (Memref.isWhole_whole _) aM (Memref.isWhole_whole _) dM (Memref.isWhole_whole _) cc0_scratch6 cc0_scratch7 cc0_scratch8 c v5 v7 (wC m c) (k0_pay7 (wC m c) (lM.view.readAt (Elt F) rh0.toLoadRect (pair m (prv c)))) v137) Q) := by
  rw [k0_part6_eq_skeleton]; unfold k0_part6_skel
  simp only [semSignalWord, semWaitWord, Prog.lift, Prog.bind_op, Prog.bind_ret, Prog.pure_eq_ret, wp_deviceId]
  iintro ⟨#HR, #HL, HO, B2', O2, D14, P8, B3, O3, D15, C9, T9⟩ Hk
  rw [pay8]
  iapply (wp_st_b m c 2) $$ [B2']
  · iexact B2'
  iintro B2
  iapply (wp_cpy m K c 2 14 rfl (by decide) rfl _ rfl rfl (off3 c)) $$ [B2 O2 D14]
  · isplitr; · iexact HR
    isplitl [B2]; · iexact B2
    isplitl [O2]; · iexact O2
    iexact D14
  iintro C14
  iapply (wp_ld_hi c lM fullShare (pair m (prv c))) $$ [P8]
  · iexact P8
  iintro P8
  ihave B3' := (Entails.of_eq (show anyPts c (bB 3) = iprop(∃ f, pts c (bB 3) fullShare f) from rfl)) $$ B3
  icases B3' with ⟨%f3, B3⟩
  iapply (wp_ld_b c 3 fullShare f3) $$ [B3]
  · iexact B3
  iintro B3
  ihave B3' := (anyPts_intro c (bB 3) f3) $$ B3
  rw [pay9]
  iapply (wp_st_b m c 3) $$ [B3']
  · iexact B3'
  iintro B3
  iapply (wp_cpy m K c 3 15 rfl (by decide) rfl _ rfl rfl (off4 c)) $$ [B3 O3 D15]
  · isplitr; · iexact HR
    isplitl [B3]; · iexact B3
    isplitl [O3]; · iexact O3
    iexact D15
  iintro C15
  iapply (wp_rest m K c 9 (by decide) _ rfl 3 (by decide) (0) (above_zero 3) (dst := lo rM) (rfl)) $$ [C9 HO T9]
  · isplitr; · iexact HR
    isplitr; · iexact HL
    isplitl [C9]; · iexact C9
    isplitl [HO]; · iexact HO
    iexact T9
  iintro ⟨HO, Z9, P9⟩
  ihave P9 := (Entails.of_eq (show pay m c 9 false = pts c (lo rM) fullShare (pair m (nxt c)) from rfl)) $$ P9
  rw [wp_ret]; imodintro
  iapply Hk
  isplitl [HO]; · iexact HO
  isplitl [C14]; · iexact C14
  isplitl [C15]; · iexact C15
  isplitl [P8]; · iexact P8
  isplitl [Z9]; · iexact Z9
  iexact P9

theorem part7 {Q : _ → sProp 𝕄} (c : Dev nD) (v5 v7 : BitVec 32) :
    iprop(records m K ∗ levAts L lv ∗ debt c (0) ∗ pts c (lo rM) fullShare (pair m (nxt c)) ∗ anyPts c (bB 4) ∗ anyPts c (oB (dest c 4)) ∗ dutyTok ER (kcell (c, 16)) 0 false ∗ pts c (hi rM) qD (pair m (nxt c)) ∗ anyPts c (bB 5) ∗ anyPts c (oB (dest c 5)) ∗ dutyTok ER (kcell (c, 17)) 0 false ∗ cred (tallyAt (kcell (c, 10)) () (amountOf 10)) ∗ atPos ER (kcell (c, 10)) 0 ∅ 0)
      ⊢ iprop(((debt c (0) ∗ cred (tallyAt (kcell (c, 16)) () (amountOf 16)) ∗ cred (tallyAt (kcell (c, 17)) () (amountOf 17)) ∗ pts c (lo rM) fullShare (pair m (nxt c)) ∗ pts c (hi rM) qD (pair m (nxt c)) ∗ semVal (kcell (c, 10)) 0 ∗ pts c aM fullShare (half m (opp c) 0)) -∗ Q ⟨⟩)
          -∗ wp frame (wpE (defs₀ (F := F)) 𝒱₀ (c : Thread nD τ) none) Set.univ (k0_part7 xM (Memref.isWhole_whole _) wM (Memref.isWhole_whole _) oM (Memref.isWhole_whole _) bM (Memref.isWhole_whole _) mM (Memref.isWhole_whole _) lM (Memref.isWhole_whole _) rM (Memref.isWhole_whole _) aM (Memref.isWhole_whole _) dM (Memref.isWhole_whole _) cc0_scratch6 cc0_scratch7 cc0_scratch8 c v5 v7 (wC m c)) Q) := by
  rw [k0_part7_eq_skeleton]; unfold k0_part7_skel
  simp only [semSignalWord, semWaitWord, Prog.lift, Prog.bind_op, Prog.bind_ret, Prog.pure_eq_ret, wp_deviceId]
  iintro ⟨#HR, #HL, HO, P9, B4, O4, D16, RD, B5, O5, D17, C10, T10⟩ Hk
  iapply (wp_ld_lo c rM fullShare (pair m (nxt c))) $$ [P9]
  · iexact P9
  iintro P9
  ihave B4' := (Entails.of_eq (show anyPts c (bB 4) = iprop(∃ f, pts c (bB 4) fullShare f) from rfl)) $$ B4
  icases B4' with ⟨%f4, B4⟩
  iapply (wp_ld_b c 4 fullShare f4) $$ [B4]
  · iexact B4
  iintro B4
  ihave B4' := (anyPts_intro c (bB 4) f4) $$ B4
  rw [pay10]
  iapply (wp_st_b m c 4) $$ [B4']
  · iexact B4'
  iintro B4
  iapply (wp_cpy m K c 4 16 rfl (by decide) rfl _ rfl rfl (off5 c)) $$ [B4 O4 D16]
  · isplitr; · iexact HR
    isplitl [B4]; · iexact B4
    isplitl [O4]; · iexact O4
    iexact D16
  iintro C16
  iapply (wp_ld_hi c rM qD (pair m (nxt c))) $$ [RD]
  · iexact RD
  iintro RD
  ihave B5' := (Entails.of_eq (show anyPts c (bB 5) = iprop(∃ f, pts c (bB 5) fullShare f) from rfl)) $$ B5
  icases B5' with ⟨%f5, B5⟩
  iapply (wp_ld_b c 5 fullShare f5) $$ [B5]
  · iexact B5
  iintro B5
  ihave B5' := (anyPts_intro c (bB 5) f5) $$ B5
  rw [pay11]
  iapply (wp_st_b m c 5) $$ [B5']
  · iexact B5'
  iintro B5
  iapply (wp_cpy m K c 5 17 rfl (by decide) rfl _ rfl rfl (off6 c)) $$ [B5 O5 D17]
  · isplitr; · iexact HR
    isplitl [B5]; · iexact B5
    isplitl [O5]; · iexact O5
    iexact D17
  iintro C17
  iapply (wp_rest m K c 10 (by decide) _ rfl 3 (by decide) (0) (above_zero 3) (dst := aM) (rfl)) $$ [C10 HO T10]
  · isplitr; · iexact HR
    isplitr; · iexact HL
    isplitl [C10]; · iexact C10
    isplitl [HO]; · iexact HO
    iexact T10
  iintro ⟨HO, Z10, P10⟩
  ihave P10 := (Entails.of_eq (show pay m c 10 false = pts c aM fullShare (half m (opp c) 0) from rfl)) $$ P10
  rw [wp_ret]; imodintro
  iapply Hk
  isplitl [HO]; · iexact HO
  isplitl [C16]; · iexact C16
  isplitl [C17]; · iexact C17
  isplitl [P9]; · iexact P9
  isplitl [RD]; · iexact RD
  isplitl [Z10]; · iexact Z10
  iexact P10

theorem part8 {Q : _ → sProp 𝕄} (c : Dev nD) (v7 v9 : BitVec 32) :
    iprop(records m K ∗ levAts L lv ∗ debt c (0) ∗ pts c aM fullShare (half m (opp c) 0) ∗ anyPts c (bB 6) ∗ anyPts c (oB (dest c 6)) ∗ dutyTok ER (kcell (c, 18)) 0 false ∗ cred (tallyAt (kcell (c, 11)) () (amountOf 11)) ∗ atPos ER (kcell (c, 11)) 0 ∅ 0 ∗ anyPts c (bB 7) ∗ anyPts c (oB (dest c 7)) ∗ dutyTok ER (kcell (c, 19)) 0 false)
      ⊢ iprop(((debt c (0) ∗ cred (tallyAt (kcell (c, 18)) () (amountOf 18)) ∗ cred (tallyAt (kcell (c, 19)) () (amountOf 19)) ∗ pts c aM fullShare (half m (opp c) 0) ∗ semVal (kcell (c, 11)) 0 ∗ pts c dM fullShare (half m (opp c) 1)) -∗ Q ⟨⟩)
          -∗ wp frame (wpE (defs₀ (F := F)) 𝒱₀ (c : Thread nD τ) none) Set.univ (k0_part8 xM (Memref.isWhole_whole _) wM (Memref.isWhole_whole _) oM (Memref.isWhole_whole _) bM (Memref.isWhole_whole _) mM (Memref.isWhole_whole _) lM (Memref.isWhole_whole _) rM (Memref.isWhole_whole _) aM (Memref.isWhole_whole _) dM (Memref.isWhole_whole _) cc0_scratch6 cc0_scratch7 cc0_scratch8 c v7 v9 (wC m c)) Q) := by
  rw [k0_part8_eq_skeleton]; unfold k0_part8_skel
  simp only [semSignalWord, semWaitWord, Prog.lift, Prog.bind_op, Prog.bind_ret, Prog.pure_eq_ret, wp_deviceId]
  iintro ⟨#HR, #HL, HO, P10, B6, O6, D18, C11, T11, B7, O7, D19⟩ Hk
  iapply (wp_ld_a c fullShare (half m (opp c) 0)) $$ [P10]
  · iexact P10
  iintro P10
  rw [load_a]
  ihave B6' := (Entails.of_eq (show anyPts c (bB 6) = iprop(∃ f, pts c (bB 6) fullShare f) from rfl)) $$ B6
  icases B6' with ⟨%f6, B6⟩
  iapply (wp_ld_b c 6 fullShare f6) $$ [B6]
  · iexact B6
  iintro B6
  ihave B6' := (anyPts_intro c (bB 6) f6) $$ B6
  rw [pay12]
  iapply (wp_st_b m c 6) $$ [B6']
  · iexact B6'
  iintro B6
  iapply (wp_cpy m K c 6 18 rfl (by decide) rfl _ rfl rfl (off7 c)) $$ [B6 O6 D18]
  · isplitr; · iexact HR
    isplitl [B6]; · iexact B6
    isplitl [O6]; · iexact O6
    iexact D18
  iintro C18
  iapply (wp_rest m K c 11 (by decide) _ rfl 3 (by decide) (0) (above_zero 3) (dst := dM) (rfl)) $$ [C11 HO T11]
  · isplitr; · iexact HR
    isplitr; · iexact HL
    isplitl [C11]; · iexact C11
    isplitl [HO]; · iexact HO
    iexact T11
  iintro ⟨HO, Z11, P11⟩
  ihave P11 := (Entails.of_eq (show pay m c 11 false = pts c dM fullShare (half m (opp c) 1) from rfl)) $$ P11
  iapply (wp_ld_d c fullShare (half m (opp c) 1)) $$ [P11]
  · iexact P11
  iintro P11
  rw [load_d]
  ihave B7' := (Entails.of_eq (show anyPts c (bB 7) = iprop(∃ f, pts c (bB 7) fullShare f) from rfl)) $$ B7
  icases B7' with ⟨%f7, B7⟩
  iapply (wp_ld_b c 7 fullShare f7) $$ [B7]
  · iexact B7
  iintro B7
  ihave B7' := (anyPts_intro c (bB 7) f7) $$ B7
  rw [pay13]
  iapply (wp_st_b m c 7) $$ [B7']
  · iexact B7'
  iintro B7
  iapply (wp_cpy m K c 7 19 rfl (by decide) rfl _ rfl rfl (off8 c)) $$ [B7 O7 D19]
  · isplitr; · iexact HR
    isplitl [B7]; · iexact B7
    isplitl [O7]; · iexact O7
    iexact D19
  iintro C19
  rw [wp_ret]; imodintro
  iapply Hk
  isplitl [HO]; · iexact HO
  isplitl [C18]; · iexact C18
  isplitl [C19]; · iexact C19
  isplitl [P10]; · iexact P10
  isplitl [Z11]; · iexact Z11
  iexact P11

theorem part9 {Q : _ → sProp 𝕄} (c : Dev nD) :
    iprop(records m K ∗ levAts L lv ∗ debt c (0) ∗ cred (tallyAt (kcell (c, 0)) () (amountOf 0)) ∗ atPos ER (kcell (c, 0)) 0 ∅ 0 ∗ cred (tallyAt (kcell (c, 1)) () (amountOf 1)) ∗ atPos ER (kcell (c, 1)) 0 ∅ 0 ∗ cred (tallyAt (kcell (c, 2)) () (amountOf 2)) ∗ atPos ER (kcell (c, 2)) 0 ∅ 0 ∗ cred (tallyAt (kcell (c, 3)) () (amountOf 3)) ∗ atPos ER (kcell (c, 3)) 0 ∅ 0)
      ⊢ iprop(((debt c (0) ∗ semVal (kcell (c, 0)) 0 ∗ semVal (kcell (c, 1)) 0 ∗ semVal (kcell (c, 2)) 0 ∗ semVal (kcell (c, 3)) 0 ∗ pts c (lo mM) qA (pair m c) ∗ pts c (hi mM) qA (pair m c) ∗ pts c (hi mM) qB (pair m c) ∗ pts c (lo mM) qB (pair m c)) -∗ Q ⟨⟩)
          -∗ wp frame (wpE (defs₀ (F := F)) 𝒱₀ (c : Thread nD τ) none) Set.univ (k0_part9 xM (Memref.isWhole_whole _) wM (Memref.isWhole_whole _) oM (Memref.isWhole_whole _) bM (Memref.isWhole_whole _) mM (Memref.isWhole_whole _) lM (Memref.isWhole_whole _) rM (Memref.isWhole_whole _) aM (Memref.isWhole_whole _) dM (Memref.isWhole_whole _) cc0_scratch6 cc0_scratch7 cc0_scratch8) Q) := by
  rw [k0_part9_eq_skeleton]; unfold k0_part9_skel
  simp only [semSignalWord, semWaitWord, Prog.lift, Prog.bind_op, Prog.bind_ret, Prog.pure_eq_ret, wp_deviceId]
  iintro ⟨#HR, #HL, HO, C0, T0, C1, T1, C2, T2, C3, T3⟩ Hk
  iapply (wp_rest m K c 0 (by decide) _ rfl 3 (by decide) (0) (above_zero 3) (dst := lo mM) (rfl)) $$ [C0 HO T0]
  · isplitr; · iexact HR
    isplitr; · iexact HL
    isplitl [C0]; · iexact C0
    isplitl [HO]; · iexact HO
    iexact T0
  iintro ⟨HO, Z0, P0⟩
  ihave P0 := (Entails.of_eq (show pay m c 0 false = pts c (lo mM) qA (pair m c) from rfl)) $$ P0
  iapply (wp_rest m K c 1 (by decide) _ rfl 3 (by decide) (0) (above_zero 3) (dst := hi mM) (rfl)) $$ [C1 HO T1]
  · isplitr; · iexact HR
    isplitr; · iexact HL
    isplitl [C1]; · iexact C1
    isplitl [HO]; · iexact HO
    iexact T1
  iintro ⟨HO, Z1, P1⟩
  ihave P1 := (Entails.of_eq (show pay m c 1 false = pts c (hi mM) qA (pair m c) from rfl)) $$ P1
  iapply (wp_rest m K c 2 (by decide) _ rfl 3 (by decide) (0) (above_zero 3) (dst := hi mM) (rfl)) $$ [C2 HO T2]
  · isplitr; · iexact HR
    isplitr; · iexact HL
    isplitl [C2]; · iexact C2
    isplitl [HO]; · iexact HO
    iexact T2
  iintro ⟨HO, Z2, P2⟩
  ihave P2 := (Entails.of_eq (show pay m c 2 false = pts c (hi mM) qB (pair m c) from rfl)) $$ P2
  iapply (wp_rest m K c 3 (by decide) _ rfl 3 (by decide) (0) (above_zero 3) (dst := lo mM) (rfl)) $$ [C3 HO T3]
  · isplitr; · iexact HR
    isplitr; · iexact HL
    isplitl [C3]; · iexact C3
    isplitl [HO]; · iexact HO
    iexact T3
  iintro ⟨HO, Z3, P3⟩
  ihave P3 := (Entails.of_eq (show pay m c 3 false = pts c (lo mM) qB (pair m c) from rfl)) $$ P3
  rw [wp_ret]; imodintro
  iapply Hk
  isplitl [HO]; · iexact HO
  isplitl [Z0]; · iexact Z0
  isplitl [Z1]; · iexact Z1
  isplitl [Z2]; · iexact Z2
  isplitl [Z3]; · iexact Z3
  isplitl [P0]; · iexact P0
  isplitl [P1]; · iexact P1
  isplitl [P2]; · iexact P2
  iexact P3

theorem part10 {Q : _ → sProp 𝕄} (c : Dev nD) :
    iprop(records m K ∗ levAts L lv ∗ debt c (0) ∗ cred (tallyAt (kcell (c, 4)) () (amountOf 4)) ∗ atPos ER (kcell (c, 4)) 0 ∅ 0 ∗ cred (tallyAt (kcell (c, 5)) () (amountOf 5)) ∗ atPos ER (kcell (c, 5)) 0 ∅ 0 ∗ cred (tallyAt (kcell (c, 12)) () (amountOf 12)) ∗ atPos ER (kcell (c, 12)) 0 ∅ 0 ∗ cred (tallyAt (kcell (c, 13)) () (amountOf 13)) ∗ atPos ER (kcell (c, 13)) 0 ∅ 0 ∗ cred (tallyAt (kcell (c, 14)) () (amountOf 14)) ∗ atPos ER (kcell (c, 14)) 0 ∅ 0 ∗ cred (tallyAt (kcell (c, 15)) () (amountOf 15)) ∗ atPos ER (kcell (c, 15)) 0 ∅ 0)
      ⊢ iprop(((debt c (0) ∗ semVal (kcell (c, 4)) 0 ∗ semVal (kcell (c, 5)) 0 ∗ semVal (kcell (c, 12)) 0 ∗ semVal (kcell (c, 13)) 0 ∗ semVal (kcell (c, 14)) 0 ∗ semVal (kcell (c, 15)) 0 ∗ pts c (lo lM) qA (pair m (prv c)) ∗ pts c (hi rM) qA (pair m (nxt c)) ∗ storePay m c 0 ∗ storePay m c 1 ∗ storePay m c 2 ∗ storePay m c 3) -∗ Q ⟨⟩)
          -∗ wp frame (wpE (defs₀ (F := F)) 𝒱₀ (c : Thread nD τ) none) Set.univ (k0_part10 xM (Memref.isWhole_whole _) wM (Memref.isWhole_whole _) oM (Memref.isWhole_whole _) bM (Memref.isWhole_whole _) mM (Memref.isWhole_whole _) lM (Memref.isWhole_whole _) rM (Memref.isWhole_whole _) aM (Memref.isWhole_whole _) dM (Memref.isWhole_whole _) cc0_scratch6 cc0_scratch7 cc0_scratch8 c) Q) := by
  rw [k0_part10_eq_skeleton]; unfold k0_part10_skel
  simp only [semSignalWord, semWaitWord, Prog.lift, Prog.bind_op, Prog.bind_ret, Prog.pure_eq_ret, wp_deviceId]
  iintro ⟨#HR, #HL, HO, C4, T4, C5, T5, C12, T12, C13, T13, C14, T14, C15, T15⟩ Hk
  iapply (wp_rest m K c 4 (by decide) _ rfl 3 (by decide) (0) (above_zero 3) (dst := lo lM) (rfl)) $$ [C4 HO T4]
  · isplitr; · iexact HR
    isplitr; · iexact HL
    isplitl [C4]; · iexact C4
    isplitl [HO]; · iexact HO
    iexact T4
  iintro ⟨HO, Z4, P4⟩
  ihave P4 := (Entails.of_eq (show pay m c 4 false = pts c (lo lM) qA (pair m (prv c)) from rfl)) $$ P4
  iapply (wp_rest m K c 5 (by decide) _ rfl 3 (by decide) (0) (above_zero 3) (dst := hi rM) (rfl)) $$ [C5 HO T5]
  · isplitr; · iexact HR
    isplitr; · iexact HL
    isplitl [C5]; · iexact C5
    isplitl [HO]; · iexact HO
    iexact T5
  iintro ⟨HO, Z5, P5⟩
  ihave P5 := (Entails.of_eq (show pay m c 5 false = pts c (hi rM) qA (pair m (nxt c)) from rfl)) $$ P5
  iapply (wp_rest m K c 12 (by decide) _ rfl 3 (by decide) (0) (above_zero 3) (dst := oM.slice (Rect.unit (s := S1024x256) (k0_off1 c) S128x256.size (k0_off1_inb c)) (fun _ => rfl)) (credit_o _)) $$ [C12 HO T12]
  · isplitr; · iexact HR
    isplitr; · iexact HL
    isplitl [C12]; · iexact C12
    isplitl [HO]; · iexact HO
    iexact T12
  iintro ⟨HO, Z12, P12⟩
  ihave P12 := (Entails.of_eq (show pay m c 12 false = storePay m c 0 from rfl)) $$ P12
  iapply (wp_rest m K c 13 (by decide) _ rfl 3 (by decide) (0) (above_zero 3) (dst := oM.slice (Rect.unit (s := S1024x256) (k0_off2 c) S128x256.size (k0_off2_inb c)) (fun _ => rfl)) (credit_o _)) $$ [C13 HO T13]
  · isplitr; · iexact HR
    isplitr; · iexact HL
    isplitl [C13]; · iexact C13
    isplitl [HO]; · iexact HO
    iexact T13
  iintro ⟨HO, Z13, P13⟩
  ihave P13 := (Entails.of_eq (show pay m c 13 false = storePay m c 1 from rfl)) $$ P13
  iapply (wp_rest m K c 14 (by decide) _ rfl 3 (by decide) (0) (above_zero 3) (dst := oM.slice (Rect.unit (s := S1024x256) (k0_off3 c) S128x256.size (k0_off3_inb c)) (fun _ => rfl)) (credit_o _)) $$ [C14 HO T14]
  · isplitr; · iexact HR
    isplitr; · iexact HL
    isplitl [C14]; · iexact C14
    isplitl [HO]; · iexact HO
    iexact T14
  iintro ⟨HO, Z14, P14⟩
  ihave P14 := (Entails.of_eq (show pay m c 14 false = storePay m c 2 from rfl)) $$ P14
  iapply (wp_rest m K c 15 (by decide) _ rfl 3 (by decide) (0) (above_zero 3) (dst := oM.slice (Rect.unit (s := S1024x256) (k0_off4 c) S128x256.size (k0_off4_inb c)) (fun _ => rfl)) (credit_o _)) $$ [C15 HO T15]
  · isplitr; · iexact HR
    isplitr; · iexact HL
    isplitl [C15]; · iexact C15
    isplitl [HO]; · iexact HO
    iexact T15
  iintro ⟨HO, Z15, P15⟩
  ihave P15 := (Entails.of_eq (show pay m c 15 false = storePay m c 3 from rfl)) $$ P15
  rw [wp_ret]; imodintro
  iapply Hk
  isplitl [HO]; · iexact HO
  isplitl [Z4]; · iexact Z4
  isplitl [Z5]; · iexact Z5
  isplitl [Z12]; · iexact Z12
  isplitl [Z13]; · iexact Z13
  isplitl [Z14]; · iexact Z14
  isplitl [Z15]; · iexact Z15
  isplitl [P4]; · iexact P4
  isplitl [P5]; · iexact P5
  isplitl [P12]; · iexact P12
  isplitl [P13]; · iexact P13
  isplitl [P14]; · iexact P14
  iexact P15

end Cert.GatherProof

end
-- ==== Proof.Split.lean ====
/- The buffers taken apart into the pieces the body moves, and put together again. -/
module

public import proofs.«01_k».proof.Proof.Parts

@[expose] public section

noncomputable section

namespace Cert.GatherProof

open Cert.KernelIdeal Cert.KernelIdeal.Gen
open Idealize.ShloMosaic
open Idealize.ShloMosaic.TcCoe

open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem halves_cover : rh0.set ∪ rh1.set = Finset.univ := by
  ext i
  simp only [Finset.mem_union, Finset.mem_univ, iff_true, Rect.mem_set_unit]
  have h0 : (i 0).val < 2 := (i 0).isLt
  have h1 : (i 1).val < 128 := (i 1).isLt
  have h2 : (i 2).val < 1024 := (i 2).isLt
  rcases Nat.lt_or_ge (i 0).val 1 with h | h
  · left; intro a
    match a with
    | ⟨0, _⟩ => exact ⟨Nat.zero_le _, by show _ < 0 + 1; exact h⟩
    | ⟨1, _⟩ => exact ⟨Nat.zero_le _, by show _ < 0 + 128; rw [Nat.zero_add]; exact h1⟩
    | ⟨2, _⟩ => exact ⟨Nat.zero_le _, by show _ < 0 + 1024; rw [Nat.zero_add]; exact h2⟩
  · right; intro a
    match a with
    | ⟨0, _⟩ => exact ⟨h, by show _ < 1 + 1; exact h0⟩
    | ⟨1, _⟩ => exact ⟨Nat.zero_le _, by show _ < 0 + 128; rw [Nat.zero_add]; exact h1⟩
    | ⟨2, _⟩ => exact ⟨Nat.zero_le _, by show _ < 0 + 1024; rw [Nat.zero_add]; exact h2⟩

theorem halves_apart : Disjoint rh0.set rh1.set := by
  rw [Finset.disjoint_left]
  intro i hi hi'
  rw [Rect.mem_set_unit] at hi hi'
  have a := (hi 0).2
  have b := (hi' 0).1
  have a' : (i 0).val < 0 + 1 := a
  have b' : 1 ≤ (i 0).val := b
  omega

/-- A pair of half blocks is its two halves. -/
theorem halves (c : Dev nD) (M : Memref sig .tc .vmem S2x128x1024 .bf16) (q : PosShare TreeShare) (f : Buf (Elt F) (M.view.loc (c : Thread nD τ))) :
    (pts c M q f : sProp 𝕄) ⊣⊢ iprop(pts c (lo M) q f ∗ pts c (hi M) q f) := by
  have hs : M.view.set = M.view.setOn rh0.set ∪ M.view.setOn rh1.set := by
    unfold View.setOn
    rw [← Finset.map_union, halves_cover]; rfl
  have hd : Disjoint (M.view.setOn rh0.set) (M.view.setOn rh1.set) := (Finset.disjoint_map _).mpr halves_apart
  have h0 : (lo M).view.set = M.view.setOn rh0.set := (set_lo M).symm
  have h1 : (hi M).view.set = M.view.setOn rh1.set := (set_hi M).symm
  show (M.view.loc (c : Thread nD τ) ↦[M.view.set]{q} f : sProp 𝕄)
    ⊣⊢ iprop((M.view.loc (c : Thread nD τ) ↦[(lo M).view.set]{q} f) ∗ (M.view.loc (c : Thread nD τ) ↦[(hi M).view.set]{q} f))
  rw [h0, h1, hs]
  exact pointsTo_union hd

theorem bands_cover : (Finset.univ : Finset (Fin 8)).biUnion (fun j => (rb j).set) = Finset.univ := by
  ext i
  simp only [Finset.mem_biUnion, Finset.mem_univ, true_and, iff_true, Rect.mem_set_unit]
  have h0 : (i 0).val < 1024 := (i 0).isLt
  have h1 : (i 1).val < 256 := (i 1).isLt
  refine ⟨⟨(i 0).val / 128, by omega⟩, fun a => ?_⟩
  match a with
  | ⟨0, _⟩ => exact ⟨by show 128 * ((i 0).val / 128) ≤ (i 0).val; omega, by show (i 0).val < 128 * ((i 0).val / 128) + 128; omega⟩
  | ⟨1, _⟩ => exact ⟨Nat.zero_le _, by show _ < 0 + 256; rw [Nat.zero_add]; exact h1⟩

theorem bands_apart (j j' : Fin 8) (h : j ≠ j') : Disjoint (rb j).set (rb j').set := by
  rw [Finset.disjoint_left]
  intro i hi hi'
  rw [Rect.mem_set_unit] at hi hi'
  have a : 128 * j.val ≤ (i 0).val ∧ (i 0).val < 128 * j.val + 128 := hi 0
  have b : 128 * j'.val ≤ (i 0).val ∧ (i 0).val < 128 * j'.val + 128 := hi' 0
  exact h (Fin.ext (by omega))

/-- The product buffer is its eight bands. -/
theorem bands_b (c : Dev nD) (f : Buf (Elt F) (bM.view.loc (c : Thread nD τ))) :
    (pts c bM fullShare f : sProp 𝕄) = bigSep Finset.univ fun j : Fin 8 => pts c (bB j) fullShare f := by
  have hs : ∀ j, (bB j).view.set = (rb j).set := fun j => View.set_slice_whole _ _
  have hw : bM.view.set = (Finset.univ : Finset (Fin 8)).biUnion fun j => (rb j).set := by rw [bands_cover]; exact View.set_whole _
  show (bM.view.loc (c : Thread nD τ) ↦[bM.view.set]{fullShare} f : sProp 𝕄)
    = bigSep Finset.univ fun j : Fin 8 => (bM.view.loc (c : Thread nD τ) ↦[(bB j).view.set]{fullShare} f)
  simp only [hs]
  rw [hw]
  exact pointsTo_biUnion _ _ fun j _ j' _ h => bands_apart j j' h

/-- The result is its eight bands, in the order device `c` fills them. -/
theorem bands_o (c : Dev nD) (f : Buf (Elt F) (oM.view.loc (c : Thread nD τ))) :
    (pts c oM fullShare f : sProp 𝕄) = bigSep Finset.univ fun j : Fin 8 => pts c (oB (dest c j)) fullShare f := by
  have hs : ∀ j, (oB j).view.set = (rb j).set := fun j => View.set_slice_whole _ _
  have hw : oM.view.set = (Finset.univ : Finset (Fin 8)).biUnion fun j => (rb j).set := by rw [bands_cover]; exact View.set_whole _
  have h : (pts c oM fullShare f : sProp 𝕄) = bigSep Finset.univ fun j : Fin 8 => pts c (oB j) fullShare f := by
    show (oM.view.loc (c : Thread nD τ) ↦[oM.view.set]{fullShare} f : sProp 𝕄)
      = bigSep Finset.univ fun j : Fin 8 => (oM.view.loc (c : Thread nD τ) ↦[(oB j).view.set]{fullShare} f)
    simp only [hs]
    rw [hw]
    exact pointsTo_biUnion _ _ fun j _ j' _ h => bands_apart j j' h
  rw [h, bigSep_univ_equiv (Equiv.ofBijective (dest c) (dest_bijective c))]
  rfl

theorem anyPts_elim {sp : Space} {s : Shape} {e : EltTy} (c : Dev nD) (M : Memref sig .tc sp s e) :
    (anyPts c M : sProp 𝕄) = iprop(∃ f, pts c M fullShare f) := rfl

theorem any_halves (c : Dev nD) (M : Memref sig .tc .vmem S2x128x1024 .bf16) :
    (anyPts c M : sProp 𝕄) ⊢ iprop(anyPts c (lo M) ∗ anyPts c (hi M)) := by
  rw [anyPts_elim]
  iintro ⟨%f, H⟩
  ihave H' := (halves c M fullShare f).1 $$ H
  icases H' with ⟨H0, H1⟩
  isplitl [H0]
  · iapply (anyPts_intro c (lo M) f); iexact H0
  · iapply (anyPts_intro c (hi M) f); iexact H1

theorem any_bands_b (c : Dev nD) : (anyPts c bM : sProp 𝕄) ⊢ bigSep Finset.univ fun j : Fin 8 => anyPts c (bB j) := by
  rw [anyPts_elim]
  iintro ⟨%f, H⟩
  ihave H' := (Entails.of_eq (bands_b c f)) $$ H
  have h : (bigSep Finset.univ fun j : Fin 8 => (pts c (bB j) fullShare f : sProp 𝕄)) ⊢ bigSep Finset.univ fun j : Fin 8 => anyPts c (bB j) :=
    bigSep_mono fun j _ => anyPts_intro c (bB j) f
  iapply h
  iexact H'

theorem any_bands_o (c : Dev nD) : (anyPts c oM : sProp 𝕄) ⊢ bigSep Finset.univ fun j : Fin 8 => anyPts c (oB (dest c j)) := by
  rw [anyPts_elim]
  iintro ⟨%f, H⟩
  ihave H' := (Entails.of_eq (bands_o c f)) $$ H
  have h : (bigSep Finset.univ fun j : Fin 8 => (pts c (oB (dest c j)) fullShare f : sProp 𝕄)) ⊢ bigSep Finset.univ fun j : Fin 8 => anyPts c (oB (dest c j)) :=
    bigSep_mono fun j _ => anyPts_intro c (oB (dest c j)) f
  iapply h
  iexact H'

theorem over8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem over21 (Φ : Fin 21 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

end Cert.GatherProof

end
-- ==== Proof.Body.lean ====
/- The kernel's whole body on device `c`: from its empty scratch, its staged blocks and its rights under the protocol to
   the result, every cell closed. -/
module

public import proofs.«01_k».proof.Proof.Split

@[expose] public section

noncomputable section

namespace Cert.GatherProof

open Cert.KernelIdeal Cert.KernelIdeal.Gen
open Idealize.ShloMosaic
open Idealize.ShloMosaic.TcCoe

open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The duties device `c` pays. -/
def payToks (c : Dev nD) : sProp 𝕄 :=
  iprop(dutyTok ER (kcell (prv c, 20)) 0 false ∗ dutyTok ER (kcell (nxt c, 20)) 0 true ∗ dutyTok ER (kcell (nxt c, 6)) 0 false ∗ dutyTok ER (kcell (prv c, 7)) 0 false ∗ dutyTok ER (kcell (nxt c, 8)) 0 false ∗ dutyTok ER (kcell (prv c, 9)) 0 false ∗ dutyTok ER (kcell (nxt c, 10)) 0 false ∗ dutyTok ER (kcell (prv c, 11)) 0 false ∗ dutyTok ER (kcell (c, 0)) 0 false ∗ dutyTok ER (kcell (c, 1)) 0 false ∗ dutyTok ER (kcell (c, 2)) 0 false ∗ dutyTok ER (kcell (c, 3)) 0 false ∗ dutyTok ER (kcell (c, 4)) 0 false ∗ dutyTok ER (kcell (c, 5)) 0 false ∗ dutyTok ER (kcell (c, 12)) 0 false ∗ dutyTok ER (kcell (c, 13)) 0 false ∗ dutyTok ER (kcell (c, 14)) 0 false ∗ dutyTok ER (kcell (c, 15)) 0 false ∗ dutyTok ER (kcell (c, 16)) 0 false ∗ dutyTok ER (kcell (c, 17)) 0 false ∗ dutyTok ER (kcell (c, 18)) 0 false ∗ dutyTok ER (kcell (c, 19)) 0 false)

/-- The credit device `c` starts with: what its neighbours owe it. -/
def credIn (c : Dev nD) : sProp 𝕄 :=
  iprop(cred (tallyAt (kcell (c, 6)) () (amountOf 6)) ∗ cred (tallyAt (kcell (c, 7)) () (amountOf 7)) ∗ cred (tallyAt (kcell (c, 8)) () (amountOf 8)) ∗ cred (tallyAt (kcell (c, 9)) () (amountOf 9)) ∗ cred (tallyAt (kcell (c, 10)) () (amountOf 10)) ∗ cred (tallyAt (kcell (c, 11)) () (amountOf 11)) ∗ cred (tallyAt (kcell (c, 20)) () 2))

/-- What the body leaves. -/
def bodyOut (c : Dev nD) : sProp 𝕄 :=
  iprop(debt c 0 ∗ (bigSep Finset.univ fun k : Fin 21 => semVal (kcell (c, k)) 0) ∗ pts c xM fullShare (xC m c) ∗ pts c wM fullShare (wC m c)
    ∗ pts c mM fullShare (pair m c) ∗ pts c lM fullShare (pair m (prv c)) ∗ pts c rM fullShare (pair m (nxt c))
    ∗ pts c aM fullShare (half m (opp c) 0) ∗ pts c dM fullShare (half m (opp c) 1) ∗ pts c bM fullShare (bufC m c) ∗ pts c oM fullShare (outC m c))

variable (K : Dev nD × Fin 21 → ℕ)

set_option maxHeartbeats 2000000 in
theorem body_run {Q : PUnit → sProp 𝕄} (c : Dev nD) :
    iprop(records m K ∗ levAts L lv ∗ debt c (O₀ c) ∗ payToks c ∗ (bigSep Finset.univ fun k : Fin 21 => atPos ER (kcell (c, k)) 0 ∅ 0) ∗ credIn c ∗ pts c xM fullShare (xC m c) ∗ pts c wM fullShare (wC m c)
        ∗ anyPts c mM ∗ anyPts c lM ∗ anyPts c rM ∗ anyPts c aM ∗ anyPts c dM ∗ anyPts c bM ∗ anyPts c oM)
      ⊢ iprop((bodyOut m c -∗ Q ⟨⟩)
          -∗ wp frame (wpE (defs₀ (F := F)) 𝒱₀ (c : Thread nD τ) none) Set.univ (cc0_body xM (Memref.isWhole_whole _) wM (Memref.isWhole_whole _) oM (Memref.isWhole_whole _) bM (Memref.isWhole_whole _) mM (Memref.isWhole_whole _) lM (Memref.isWhole_whole _) rM (Memref.isWhole_whole _) aM (Memref.isWhole_whole _) dM (Memref.isWhole_whole _) cc0_scratch6 cc0_scratch7 cc0_scratch8) Q) := by
  iintro ⟨#HR, #HL, HO, Htok, Hat, Hcr, X, W, AM, ALM, ARM, FA, FD, AB, AO⟩ Hk
  unfold payToks credIn
  icases Htok with ⟨DP, DN, D6, D7, D8, D9, D10, D11, D0, D1, D2, D3, D4, D5, D12, D13, D14, D15, D16, D17, D18, D19⟩
  icases Hcr with ⟨C6, C7, C8, C9, C10, C11, CB⟩
  ihave Hat := (Entails.of_eq (over21 fun k : Fin 21 => (atPos ER (kcell (c, k)) 0 ∅ 0 : sProp 𝕄))) $$ Hat
  icases Hat with ⟨T0, T1, T2, T3, T4, T5, T6, T7, T8, T9, T10, T11, T12, T13, T14, T15, T16, T17, T18, T19, T20⟩
  ihave AM := (any_halves c mM) $$ AM
  icases AM with ⟨LO, HI⟩
  ihave ALM := (any_halves c lM) $$ ALM
  icases ALM with ⟨FL0, FL1⟩
  ihave ARM := (any_halves c rM) $$ ARM
  icases ARM with ⟨FR0, FR1⟩
  ihave FN : fromNxt c $$ [FL0 FL1 FA]
  · unfold fromNxt
    isplitl [FL0]; · iexact FL0
    isplitl [FL1]; · iexact FL1
    iexact FA
  ihave FP : fromPrv c $$ [FR0 FR1 FD]
  · unfold fromPrv
    isplitl [FR0]; · iexact FR0
    isplitl [FR1]; · iexact FR1
    iexact FD
  ihave AB := (any_bands_b c) $$ AB
  ihave AB := (Entails.of_eq (over8 fun j : Fin 8 => (anyPts c (bB j) : sProp 𝕄))) $$ AB
  icases AB with ⟨B0, B1, B2, B3, B4, B5, B6, B7⟩
  ihave AO := (any_bands_o c) $$ AO
  ihave AO := (Entails.of_eq (over8 fun j : Fin 8 => (anyPts c (oB (dest c j)) : sProp 𝕄))) $$ AO
  icases AO with ⟨O0, O1, O2, O3, O4, O5, O6, O7⟩
  rw [cc0_body_eq_skeleton]; unfold cc0_body_skel
  rw [wp_bind]
  iapply (part1 m K c) $$ [HO DP DN FN FP X LO HI CB T20]
  · isplitr; · iexact HR
    isplitr; · iexact HL
    isplitl [HO]; · iexact HO
    isplitl [DP]; · iexact DP
    isplitl [DN]; · iexact DN
    isplitl [FN]; · iexact FN
    isplitl [FP]; · iexact FP
    isplitl [X]; · iexact X
    isplitl [LO]; · iexact LO
    isplitl [HI]; · iexact HI
    isplitl [CB]; · iexact CB
    iexact T20
  iintro %v2 %v5 %v7 %v9 ⟨HO, X, LO, HI, Z20, GN, GP⟩
  dsimp only
  ihave LO := (share2 c (lo mM) (pair m c)).1 $$ LO
  icases LO with ⟨MA, MD⟩
  ihave MD := (share2' c (lo mM) (pair m c)).1 $$ MD
  icases MD with ⟨MB, MC⟩
  ihave HI := (share2 c (hi mM) (pair m c)).1 $$ HI
  icases HI with ⟨NA, ND⟩
  ihave ND := (share2' c (hi mM) (pair m c)).1 $$ ND
  icases ND with ⟨NB, NC⟩
  unfold fromNxt fromPrv
  icases GN with ⟨E0, E2, E4⟩
  icases GP with ⟨E3, E1, E5⟩
  rw [wp_bind]
  iapply (part2 m K c v5 v7) $$ [HO MA NA E0 E1 D0 D6 D1 D7]
  · isplitr; · iexact HR
    isplitl [HO]; · iexact HO
    isplitl [MA]; · iexact MA
    isplitl [NA]; · iexact NA
    isplitl [E0]; · iexact E0
    isplitl [E1]; · iexact E1
    isplitl [D0]; · iexact D0
    isplitl [D6]; · iexact D6
    isplitl [D1]; · iexact D1
    iexact D7
  iintro ⟨HO, C0, C1⟩
  rw [wp_bind]
  iapply (part3 m K c v2 v5) $$ [HO NB MB E2 E3 D2 D8 D3 D9 W MC NC B0 O0 D12]
  · isplitr; · iexact HR
    isplitl [HO]; · iexact HO
    isplitl [NB]; · iexact NB
    isplitl [MB]; · iexact MB
    isplitl [E2]; · iexact E2
    isplitl [E3]; · iexact E3
    isplitl [D2]; · iexact D2
    isplitl [D8]; · iexact D8
    isplitl [D3]; · iexact D3
    isplitl [D9]; · iexact D9
    isplitl [W]; · iexact W
    isplitl [MC]; · iexact MC
    isplitl [NC]; · iexact NC
    isplitl [B0]; · iexact B0
    isplitl [O0]; · iexact O0
    iexact D12
  iintro ⟨HO, C2, C3, W, MC, NC, C12⟩
  dsimp only
  rw [wp_bind]
  iapply (part4 m K c v5 v7) $$ [HO B1 O1 D13 C6 T6 E4 D4 D10]
  · isplitr; · iexact HR
    isplitr; · iexact HL
    isplitl [HO]; · iexact HO
    isplitl [B1]; · iexact B1
    isplitl [O1]; · iexact O1
    isplitl [D13]; · iexact D13
    isplitl [C6]; · iexact C6
    isplitl [T6]; · iexact T6
    isplitl [E4]; · iexact E4
    isplitl [D4]; · iexact D4
    iexact D10
  iintro %v108 %v109 ⟨HO, C13, Z6, C4, LD⟩
  dsimp only
  rw [wp_bind]
  iapply (part5 m K c v5 v108 v109) $$ [HO C7 T7 E5 D5 D11 C8 T8 LD B2]
  · isplitr; · iexact HR
    isplitr; · iexact HL
    isplitl [HO]; · iexact HO
    isplitl [C7]; · iexact C7
    isplitl [T7]; · iexact T7
    isplitl [E5]; · iexact E5
    isplitl [D5]; · iexact D5
    isplitl [D11]; · iexact D11
    isplitl [C8]; · iexact C8
    isplitl [T8]; · iexact T8
    isplitl [LD]; · iexact LD
    iexact B2
  iintro %v137 ⟨HO, Z7, Z8, C5, RD, P8, LD, B2'⟩
  dsimp only
  rw [wp_bind]
  iapply (part6 m K c v5 v7 v137) $$ [HO B2' O2 D14 P8 B3 O3 D15 C9 T9]
  · isplitr; · iexact HR
    isplitr; · iexact HL
    isplitl [HO]; · iexact HO
    isplitl [B2']; · iexact B2'
    isplitl [O2]; · iexact O2
    isplitl [D14]; · iexact D14
    isplitl [P8]; · iexact P8
    isplitl [B3]; · iexact B3
    isplitl [O3]; · iexact O3
    isplitl [D15]; · iexact D15
    isplitl [C9]; · iexact C9
    iexact T9
  iintro ⟨HO, C14, C15, P8, Z9, P9⟩
  rw [wp_bind]
  iapply (part7 m K c v5 v7) $$ [HO P9 B4 O4 D16 RD B5 O5 D17 C10 T10]
  · isplitr; · iexact HR
    isplitr; · iexact HL
    isplitl [HO]; · iexact HO
    isplitl [P9]; · iexact P9
    isplitl [B4]; · iexact B4
    isplitl [O4]; · iexact O4
    isplitl [D16]; · iexact D16
    isplitl [RD]; · iexact RD
    isplitl [B5]; · iexact B5
    isplitl [O5]; · iexact O5
    isplitl [D17]; · iexact D17
    isplitl [C10]; · iexact C10
    iexact T10
  iintro ⟨HO, C16, C17, P9, RD, Z10, P10⟩
  rw [wp_bind]
  iapply (part8 m K c v7 v9) $$ [HO P10 B6 O6 D18 C11 T11 B7 O7 D19]
  · isplitr; · iexact HR
    isplitr; · iexact HL
    isplitl [HO]; · iexact HO
    isplitl [P10]; · iexact P10
    isplitl [B6]; · iexact B6
    isplitl [O6]; · iexact O6
    isplitl [D18]; · iexact D18
    isplitl [C11]; · iexact C11
    isplitl [T11]; · iexact T11
    isplitl [B7]; · iexact B7
    isplitl [O7]; · iexact O7
    iexact D19
  iintro ⟨HO, C18, C19, P10, Z11, P11⟩
  rw [wp_bind]
  iapply (part9 m K c) $$ [HO C0 T0 C1 T1 C2 T2 C3 T3]
  · isplitr; · iexact HR
    isplitr; · iexact HL
    isplitl [HO]; · iexact HO
    isplitl [C0]; · iexact C0
    isplitl [T0]; · iexact T0
    isplitl [C1]; · iexact C1
    isplitl [T1]; · iexact T1
    isplitl [C2]; · iexact C2
    isplitl [T2]; · iexact T2
    isplitl [C3]; · iexact C3
    iexact T3
  iintro ⟨HO, Z0, Z1, Z2, Z3, P0, P1, P2, P3⟩
  rw [wp_bind]
  iapply (part10 m K c) $$ [HO C4 T4 C5 T5 C12 T12 C13 T13 C14 T14 C15 T15]
  · isplitr; · iexact HR
    isplitr; · iexact HL
    isplitl [HO]; · iexact HO
    isplitl [C4]; · iexact C4
    isplitl [T4]; · iexact T4
    isplitl [C5]; · iexact C5
    isplitl [T5]; · iexact T5
    isplitl [C12]; · iexact C12
    isplitl [T12]; · iexact T12
    isplitl [C13]; · iexact C13
    isplitl [T13]; · iexact T13
    isplitl [C14]; · iexact C14
    isplitl [T14]; · iexact T14
    isplitl [C15]; · iexact C15
    iexact T15
  iintro ⟨HO, Z4, Z5, Z12, Z13, Z14, Z15, P4, P5, P12, P13, P14, P15⟩
  simp only [Prog.lift, Prog.bind_op, Prog.bind_ret, Prog.pure_eq_ret]
  iapply (wp_rest m K c 16 (by decide) _ rfl 3 (by decide) (0) (above_zero 3) (dst := oM.slice (Rect.unit (s := S1024x256) (k0_off5 c 1#32) S128x256.size (k0_off5_inb c 0)) (fun _ => rfl)) (credit_o _)) $$ [C16 HO T16]
  · isplitr; · iexact HR
    isplitr; · iexact HL
    isplitl [C16]; · iexact C16
    isplitl [HO]; · iexact HO
    iexact T16
  iintro ⟨HO, Z16, P16⟩
  ihave P16 := (Entails.of_eq (show pay m c 16 false = storePay m c 4 from rfl)) $$ P16
  iapply (wp_rest m K c 17 (by decide) _ rfl 3 (by decide) (0) (above_zero 3) (dst := oM.slice (Rect.unit (s := S1024x256) (k0_off6 c 1#32) S128x256.size (k0_off6_inb c 0)) (fun _ => rfl)) (credit_o _)) $$ [C17 HO T17]
  · isplitr; · iexact HR
    isplitr; · iexact HL
    isplitl [C17]; · iexact C17
    isplitl [HO]; · iexact HO
    iexact T17
  iintro ⟨HO, Z17, P17⟩
  ihave P17 := (Entails.of_eq (show pay m c 17 false = storePay m c 5 from rfl)) $$ P17
  iapply (wp_rest m K c 18 (by decide) _ rfl 3 (by decide) (0) (above_zero 3) (dst := oM.slice (Rect.unit (s := S1024x256) (k0_off5 c 2#32) S128x256.size (k0_off5_inb c 1)) (fun _ => rfl)) (credit_o _)) $$ [C18 HO T18]
  · isplitr; · iexact HR
    isplitr; · iexact HL
    isplitl [C18]; · iexact C18
    isplitl [HO]; · iexact HO
    iexact T18
  iintro ⟨HO, Z18, P18⟩
  ihave P18 := (Entails.of_eq (show pay m c 18 false = storePay m c 6 from rfl)) $$ P18
  iapply (wp_rest m K c 19 (by decide) _ rfl 3 (by decide) (0) (above_zero 3) (dst := oM.slice (Rect.unit (s := S1024x256) (k0_off6 c 2#32) S128x256.size (k0_off6_inb c 1)) (fun _ => rfl)) (credit_o _)) $$ [C19 HO T19]
  · isplitr; · iexact HR
    isplitr; · iexact HL
    isplitl [C19]; · iexact C19
    isplitl [HO]; · iexact HO
    iexact T19
  iintro ⟨HO, Z19, P19⟩
  ihave P19 := (Entails.of_eq (show pay m c 19 false = storePay m c 7 from rfl)) $$ P19
  rw [wp_ret]; imodintro
  ihave MLD := (share2' c (lo mM) (pair m c)).2 $$ [P3 MC]
  · isplitl [P3]; · iexact P3
    iexact MC
  ihave ML := (share2 c (lo mM) (pair m c)).2 $$ [P0 MLD]
  · isplitl [P0]; · iexact P0
    iexact MLD
  ihave MHD := (share2' c (hi mM) (pair m c)).2 $$ [P2 NC]
  · isplitl [P2]; · iexact P2
    iexact NC
  ihave MH := (share2 c (hi mM) (pair m c)).2 $$ [P1 MHD]
  · isplitl [P1]; · iexact P1
    iexact MHD
  ihave LL := (share2 c (lo lM) (pair m (prv c))).2 $$ [P4 LD]
  · isplitl [P4]; · iexact P4
    iexact LD
  ihave RH := (share2 c (hi rM) (pair m (nxt c))).2 $$ [P5 RD]
  · isplitl [P5]; · iexact P5
    iexact RD
  ihave MM := (halves c mM fullShare (pair m c)).2 $$ [ML MH]
  · isplitl [ML]; · iexact ML
    iexact MH
  ihave LM := (halves c lM fullShare (pair m (prv c))).2 $$ [LL P8]
  · isplitl [LL]; · iexact LL
    iexact P8
  ihave RM := (halves c rM fullShare (pair m (nxt c))).2 $$ [P9 RH]
  · isplitl [P9]; · iexact P9
    iexact RH
  icases P12 with ⟨B0, O0⟩
  icases P13 with ⟨B1, O1⟩
  icases P14 with ⟨B2, O2⟩
  icases P15 with ⟨B3, O3⟩
  icases P16 with ⟨B4, O4⟩
  icases P17 with ⟨B5, O5⟩
  icases P18 with ⟨B6, O6⟩
  icases P19 with ⟨B7, O7⟩
  ihave BM := (Entails.of_eq ((over8 fun j : Fin 8 => (pts c (bB j) fullShare (bufC m c) : sProp 𝕄)).symm.trans (bands_b c (bufC m c)).symm)) $$ [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  ihave OM := (Entails.of_eq ((over8 fun j : Fin 8 => (pts c (oB (dest c j)) fullShare (outC m c) : sProp 𝕄)).symm.trans (bands_o c (outC m c)).symm)) $$ [O0 O1 O2 O3 O4 O5 O6 O7]
  · isplitl [O0]; · iexact O0
    isplitl [O1]; · iexact O1
    isplitl [O2]; · iexact O2
    isplitl [O3]; · iexact O3
    isplitl [O4]; · iexact O4
    isplitl [O5]; · iexact O5
    isplitl [O6]; · iexact O6
    iexact O7
  ihave HZ := (Entails.of_eq (over21 fun k : Fin 21 => (semVal (kcell (c, k)) 0 : sProp 𝕄)).symm) $$ [Z0 Z1 Z2 Z3 Z4 Z5 Z6 Z7 Z8 Z9 Z10 Z11 Z12 Z13 Z14 Z15 Z16 Z17 Z18 Z19 Z20]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    isplitl [Z16]; · iexact Z16
    isplitl [Z17]; · iexact Z17
    isplitl [Z18]; · iexact Z18
    isplitl [Z19]; · iexact Z19
    iexact Z20
  iapply Hk
  unfold bodyOut
  isplitl [HO]; · iexact HO
  isplitl [HZ]; · iexact HZ
  isplitl [X]; · iexact X
  isplitl [W]; · iexact W
  isplitl [MM]; · iexact MM
  isplitl [LM]; · iexact LM
  isplitl [RM]; · iexact RM
  isplitl [P10]; · iexact P10
  isplitl [P11]; · iexact P11
  isplitl [BM]; · iexact BM
  iexact OM

end Cert.GatherProof

end
-- ==== Proof.Ghost.lean ====
/- The protocol set up before the kernel starts: the cells and the duties minted, the duties dealt to the devices that pay
   them, the cells put under the protocol, and the credit each device starts with. -/
module

public import proofs.«01_k».proof.Proof.Body

@[expose] public section

noncomputable section

namespace Cert.GatherProof

open Cert.KernelIdeal Cert.KernelIdeal.Gen
open Idealize.ShloMosaic
open Idealize.ShloMosaic.TcCoe

open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kcell_injective : Function.Injective (kcell : Dev nD × Fin 21 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every cell of every device. -/
def allCells : Finset (GSem nD τ sig) := Finset.univ.map ⟨kcell, kcell_injective⟩

/-- Device `c`'s own duties, numbered: one for each cell, and the barrier's second. -/
def dutyOf (cj : Dev nD × Fin 22) : GSem nD τ sig × ℕ × Bool :=
  (kcell (cj.1, ⟨min cj.2.val 20, by omega⟩), 0, decide (cj.2.val = 21))
theorem dutyOf_injective : Function.Injective dutyOf := by
  rintro ⟨c, j⟩ ⟨c', j'⟩ h
  have h1 := kcell_injective (congrArg (fun x : GSem nD τ sig × ℕ × Bool => x.1) h)
  have h2 : decide (j.val = 21) = decide (j'.val = 21) := congrArg (fun x : GSem nD τ sig × ℕ × Bool => x.2.2) h
  have h3 : c = c' := congrArg Prod.fst h1
  have h4 : min j.val 20 = min j'.val 20 := congrArg (fun x : Dev nD × Fin 21 => x.2.val) h1
  have h5 := decide_eq_decide.mp h2
  have h6 : j = j' := Fin.ext (by
    have := j.isLt; have := j'.isLt
    by_cases ha : j.val = 21
    · rw [ha, h5.mp ha]
    · have hb : ¬ j'.val = 21 := fun hb => ha (h5.mpr hb)
      omega)
  rw [h3, h6]
def allDuties : Finset (GSem nD τ sig × ℕ × Bool) := Finset.univ.map ⟨dutyOf, dutyOf_injective⟩

def u₀ : UU :=
  (initOf (Pipeline.cells cfgs cellOf_inj) (Pipeline.launchToks cfgs cellOf_inj), initOf allCells allDuties)

theorem over22 (Φ : Fin 22 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [0, 1, 2, 3, 4, 5, 6, 7, 8, 9, 10, 11, 12, 13, 14, 15, 16, 17, 18, 19, 20, 21] (by decide) (by decide) Φ

/-- The duties of device `c`'s own cells, as minted. -/
def minted (c : Dev nD) : sProp 𝕄 :=
  iprop(dutyTok ER (kcell (c, 0)) 0 false ∗ dutyTok ER (kcell (c, 1)) 0 false ∗ dutyTok ER (kcell (c, 2)) 0 false ∗ dutyTok ER (kcell (c, 3)) 0 false ∗ dutyTok ER (kcell (c, 4)) 0 false ∗ dutyTok ER (kcell (c, 5)) 0 false ∗ dutyTok ER (kcell (c, 6)) 0 false ∗ dutyTok ER (kcell (c, 7)) 0 false ∗ dutyTok ER (kcell (c, 8)) 0 false ∗ dutyTok ER (kcell (c, 9)) 0 false ∗ dutyTok ER (kcell (c, 10)) 0 false ∗ dutyTok ER (kcell (c, 11)) 0 false ∗ dutyTok ER (kcell (c, 12)) 0 false ∗ dutyTok ER (kcell (c, 13)) 0 false ∗ dutyTok ER (kcell (c, 14)) 0 false ∗ dutyTok ER (kcell (c, 15)) 0 false ∗ dutyTok ER (kcell (c, 16)) 0 false ∗ dutyTok ER (kcell (c, 17)) 0 false ∗ dutyTok ER (kcell (c, 18)) 0 false ∗ dutyTok ER (kcell (c, 19)) 0 false ∗ dutyTok ER (kcell (c, 20)) 0 false ∗ dutyTok ER (kcell (c, 20)) 0 true)

/-- What device `c` is dealt. -/
def dealt (c : Dev nD) : sProp 𝕄 :=
  iprop((bigSep Finset.univ fun k : Fin 21 => roundState ER (rd m) (kcell (c, k)) 0)
    ∗ (bigSep Finset.univ fun k : Fin 21 => iprop(atPos ER (kcell (c, k)) 0 ∅ 0 ∗ reached ER (kcell (c, k)) 0)) ∗ minted c)

theorem fund_cells : BI.own (ER (initOf allCells allDuties)) ⊢ (|==> bigSep Finset.univ (dealt m) : sProp 𝕄) := by
  have hX (Φ : GSem nD τ sig → sProp 𝕄) : bigSep allCells Φ = bigSep Finset.univ fun c : Dev nD => bigSep Finset.univ fun k : Fin 21 => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => minted c := by
    unfold allDuties; rw [bigSep_map, bigSep_univ_prod]
    exact bigSep_congr fun c _ => by rw [over22]; rfl
  iintro HX
  imod (Rounds.fund ER (rd m) allCells allDuties) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt
  simp only [bigSep_sep']
  isplitl [Hst]; · iexact Hst
  isplitl [Hat Hr]
  · isplitl [Hat]; · iexact Hat
    iexact Hr
  iexact Htok

/-! ## The semaphores -/

abbrev osem : Fin 20 → SemLoc sig := fun k => .dma (dsem k)
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0 ∗ semVal (kcell (c, 13)) 0 ∗ semVal (kcell (c, 14)) 0 ∗ semVal (kcell (c, 15)) 0 ∗ semVal (kcell (c, 16)) 0 ∗ semVal (kcell (c, 17)) 0 ∗ semVal (kcell (c, 18)) 0 ∗ semVal (kcell (c, 19)) 0) := by
  rw [Pipeline.ownSems0_eq_of_list c osem [0, 1, 2, 3, 4, 5, 6, 7, 8, 9, 10, 11, 12, 13, 14, 15, 16, 17, 18, 19] (by decide) (by decide)]; rfl
theorem unscopedSems0_eq (c : Dev nD) : (unscopedSems0 c : sProp 𝕄) = semVal (kcell (c, 20)) 0 := by
  unfold unscopedSems0; rw [bigSep_eq_bigSepL_of_eq [SemLoc.reg barS] (by decide) (by decide)]; rfl

/-- The kernel's own semaphores and the barrier's are the protocol's cells. -/
theorem sems_in (c : Dev nD) : iprop(Pipeline.ownSems0 (Ix := Unit) (Name := ℕ) (U := UU) (Lvl := ℕ) (Val := Elt F) (τ := τ) osem c ∗ unscopedSems0 c) ⊢ (bigSep Finset.univ fun k : Fin 21 => semVal (kcell (c, k)) 0 : sProp 𝕄) := by
  rw [ownSems0_eq, unscopedSems0_eq, over21]
  iintro ⟨⟨H0, H1, H2, H3, H4, H5, H6, H7, H8, H9, H10, H11, H12, H13, H14, H15, H16, H17, H18, H19⟩, H20⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20
theorem sems_out (c : Dev nD) : (bigSep Finset.univ fun k : Fin 21 => semVal (kcell (c, k)) 0 : sProp 𝕄) ⊢ iprop(Pipeline.ownSems0 (Ix := Unit) (Name := ℕ) (U := UU) (Lvl := ℕ) (Val := Elt F) (τ := τ) osem c ∗ unscopedSems0 c) := by
  rw [ownSems0_eq, unscopedSems0_eq, over21]
  iintro ⟨H0, H1, H2, H3, H4, H5, H6, H7, H8, H9, H10, H11, H12, H13, H14, H15, H16, H17, H18, H19, H20⟩
  isplitr [H20]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · iexact H20

/-! ## The cells under the protocol -/

theorem alloc_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ minted c) := by
  have hA : iprop((bigSep Finset.univ fun k : Fin 21 => semVal (kcell (c, k)) 0) ∗ bigSep Finset.univ fun k : Fin 21 => roundState ER (rd m) (kcell (c, k)) 0)
      ⊢ (|={Set.univ}=> bigSep Finset.univ fun k => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  unfold dealt
  iintro ⟨Hos, Hus, Hst, Hat, Htok⟩
  ihave Hv := (sems_in (F := F) c) $$ [Hos Hus]
  · isplitl [Hos]; · iexact Hos
    iexact Hus
  imod hA $$ [Hv Hst] with Hinv
  · isplitl [Hv]; · iexact Hv
    iexact Hst
  imodintro
  isplitl [Hinv]; · iexact Hinv
  isplitl [Hat]; · iexact Hat
  iexact Htok

/-- A device's own rights: the duties it pays and its positions in its own cells. -/
def linear (c : Dev nD) : sProp 𝕄 := iprop((bigSep Finset.univ fun k : Fin 21 => atPos ER (kcell (c, k)) 0 ∅ 0) ∗ payToks c)
/-- With the records, at some names of the cells. -/
def rights (c : Dev nD) : sProp 𝕄 := iprop(∃ K, records m K ∗ linear c)

/-- The duties dealt round the ring: each of the barrier's to the neighbour that pays it, each receive cell's to the sender. -/
theorem deal : (bigSep Finset.univ fun c : Dev nD => (minted c : sProp 𝕄)) ⊢ bigSep Finset.univ fun c : Dev nD => payToks c := by
  unfold minted payToks
  simp only [bigSep_sep']
  rw [bigSep_univ_equiv turn (fun c : Dev nD => (dutyTok ER (kcell (c, 6)) 0 false : sProp 𝕄)),
    bigSep_univ_equiv turn (fun c : Dev nD => (dutyTok ER (kcell (c, 8)) 0 false : sProp 𝕄)),
    bigSep_univ_equiv turn (fun c : Dev nD => (dutyTok ER (kcell (c, 10)) 0 false : sProp 𝕄)),
    bigSep_univ_equiv turn.symm (fun c : Dev nD => (dutyTok ER (kcell (c, 7)) 0 false : sProp 𝕄)),
    bigSep_univ_equiv turn.symm (fun c : Dev nD => (dutyTok ER (kcell (c, 9)) 0 false : sProp 𝕄)),
    bigSep_univ_equiv turn.symm (fun c : Dev nD => (dutyTok ER (kcell (c, 11)) 0 false : sProp 𝕄)),
    bigSep_univ_equiv turn.symm (fun c : Dev nD => (dutyTok ER (kcell (c, 20)) 0 false : sProp 𝕄)),
    bigSep_univ_equiv turn (fun c : Dev nD => (dutyTok ER (kcell (c, 20)) 0 true : sProp 𝕄))]
  iintro ⟨D0, D1, D2, D3, D4, D5, D6, D7, D8, D9, D10, D11, D12, D13, D14, D15, D16, D17, D18, D19, DP, DN⟩
  isplitl [DP]; · iexact DP
  isplitl [DN]; · iexact DN
  isplitl [D6]; · iexact D6
  isplitl [D7]; · iexact D7
  isplitl [D8]; · iexact D8
  isplitl [D9]; · iexact D9
  isplitl [D10]; · iexact D10
  isplitl [D11]; · iexact D11
  isplitl [D0]; · iexact D0
  isplitl [D1]; · iexact D1
  isplitl [D2]; · iexact D2
  isplitl [D3]; · iexact D3
  isplitl [D4]; · iexact D4
  isplitl [D5]; · iexact D5
  isplitl [D12]; · iexact D12
  isplitl [D13]; · iexact D13
  isplitl [D14]; · iexact D14
  isplitl [D15]; · iexact D15
  isplitl [D16]; · iexact D16
  isplitl [D17]; · iexact D17
  isplitl [D18]; · iexact D18
  iexact D19

theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem rights_intro (K : Dev nD × Fin 21 → ℕ) (c : Dev nD) : iprop(records m K ∗ linear c) ⊢ rights m c := by
  unfold rights
  iintro H
  iexists K
  iexact H

theorem gather_rights :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ minted c) : sProp 𝕄)
      ⊢ bigSep Finset.univ (rights m) := by
  rw [bigSep_sep', bigSep_sep', ← bigSep_univ_prod (fun ck : Dev nD × Fin 21 => iprop(∃ κ : ℕ, cellInv ER (rd m) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄))]
  iintro ⟨HI, ⟨Hat, #HR⟩, Htok⟩
  ihave HK := (BI.bigSep_exists_pi Finset.univ (fun (ck : Dev nD × Fin 21) (κ : ℕ) => (cellInv ER (rd m) κ (kcell ck) : sProp 𝕄))) $$ HI
  icases HK with ⟨%K, #HI⟩
  ihave Htk := (deal (F := F)) $$ Htok
  iapply (with_records (R := records m K) (Φ := linear) (Ψ := rights m) fun c => rights_intro m K c)
  isplitr
  · unfold records
    isplitl; · iexact HI
    iexact HR
  · unfold linear
    rw [bigSep_sep']
    isplitl [Hat]; · iexact Hat
    iexact Htk

theorem set_up : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (rights m) :=
  ((bigSep_mono fun c _ => alloc_cells m c).trans (bigSep_fupd _ _)).trans (BI.fupd_mono (gather_rights m))

/-! ## The credit at the start -/

theorem tally_kcell (d c : Dev nD) (k' k : Fin 21) (n : ℕ) :
    (tallyAt (kcell (d, k')) () n : CellTallies nD τ sig Unit) (kcell (c, k)) () = if c = d ∧ k = k' then n else 0 := by
  rw [tallyAt_apply]
  refine if_congr ⟨fun h => ?_, fun h => ?_⟩ rfl rfl
  · have := kcell_injective h.1
    exact ⟨congrArg Prod.fst this, congrArg Prod.snd this⟩
  · rw [h.1, h.2]; exact ⟨rfl, rfl⟩

theorem tally_prv (d c : Dev nD) (k' k : Fin 21) (n : ℕ) :
    (tallyAt (kcell (prv d, k')) () n : CellTallies nD τ sig Unit) (kcell (c, k)) () = if d = nxt c ∧ k = k' then n else 0 := by
  have h : ∀ c d : Dev nD, (c = prv d) = (d = nxt c) := by decide
  simp only [tally_kcell, h]
theorem tally_nxt (d c : Dev nD) (k' k : Fin 21) (n : ℕ) :
    (tallyAt (kcell (nxt d, k')) () n : CellTallies nD τ sig Unit) (kcell (c, k)) () = if d = prv c ∧ k = k' then n else 0 := by
  have h : ∀ c d : Dev nD, (c = nxt d) = (d = prv c) := by decide
  simp only [tally_kcell, h]

/-- What device `d` owes to cell `k` of device `c`. -/
theorem owed_at (d c : Dev nD) (k : Fin 21) : O₀ d (kcell (c, k)) ()
    = (if d = nxt c ∧ k = 11 then N₁ else 0) + (if d = prv c ∧ k = 10 then N₁ else 0) + (if d = nxt c ∧ k = 9 then N₁ else 0)
      + (if d = prv c ∧ k = 8 then N₁ else 0) + (if d = nxt c ∧ k = 7 then N₁ else 0) + (if d = prv c ∧ k = 6 then N₁ else 0)
      + (if d = prv c ∧ k = 20 then 1 else 0) + (if d = nxt c ∧ k = 20 then 1 else 0) := by
  unfold O₀ O₁ O₂ O₃ O₄ O₅ O₆ O₇
  simp only [Pi.add_apply, Finsupp.add_apply, tally_prv, tally_nxt]

theorem one_device (d₀ : Dev nD) (n : ℕ) : (∑ d : Dev nD, if d = d₀ then n else 0) = n := by
  rw [Finset.sum_ite_eq' Finset.univ d₀ fun _ => n, if_pos (Finset.mem_univ _)]

/-- What all devices together owe to a cell. -/
theorem owed_sum (c : Dev nD) (k : Fin 21) (a : ℕ) (h : (∑ d : Dev nD, O₀ d (kcell (c, k)) ()) = a) :
    tallyOn (kcell (c, k)) (launchCredit (Pipeline.owing O₀) 0 (kcell (c, k))) = (tallyAt (kcell (c, k)) () a : CellTallies nD τ sig Unit) := by
  unfold tallyAt
  refine congrArg _ (Finsupp.ext fun u => ?_)
  cases u
  rw [Pipeline.launchCredit_owing, Finsupp.single_eq_same, h]

theorem owed6 (c : Dev nD) : (∑ d : Dev nD, O₀ d (kcell (c, 6)) ()) = amountOf 6 := by
  rw [← one_device (prv c) (amountOf 6)]
  exact Finset.sum_congr rfl fun d _ => by rw [owed_at, show amountOf 6 = N₁ from rfl]; simp
theorem owed7 (c : Dev nD) : (∑ d : Dev nD, O₀ d (kcell (c, 7)) ()) = amountOf 7 := by
  rw [← one_device (nxt c) (amountOf 7)]
  exact Finset.sum_congr rfl fun d _ => by rw [owed_at, show amountOf 7 = N₁ from rfl]; simp
theorem owed8 (c : Dev nD) : (∑ d : Dev nD, O₀ d (kcell (c, 8)) ()) = amountOf 8 := by
  rw [← one_device (prv c) (amountOf 8)]
  exact Finset.sum_congr rfl fun d _ => by rw [owed_at, show amountOf 8 = N₁ from rfl]; simp
theorem owed9 (c : Dev nD) : (∑ d : Dev nD, O₀ d (kcell (c, 9)) ()) = amountOf 9 := by
  rw [← one_device (nxt c) (amountOf 9)]
  exact Finset.sum_congr rfl fun d _ => by rw [owed_at, show amountOf 9 = N₁ from rfl]; simp
theorem owed10 (c : Dev nD) : (∑ d : Dev nD, O₀ d (kcell (c, 10)) ()) = amountOf 10 := by
  rw [← one_device (prv c) (amountOf 10)]
  exact Finset.sum_congr rfl fun d _ => by rw [owed_at, show amountOf 10 = N₁ from rfl]; simp
theorem owed11 (c : Dev nD) : (∑ d : Dev nD, O₀ d (kcell (c, 11)) ()) = amountOf 11 := by
  rw [← one_device (nxt c) (amountOf 11)]
  exact Finset.sum_congr rfl fun d _ => by rw [owed_at, show amountOf 11 = N₁ from rfl]; simp
theorem owed20 (c : Dev nD) : (∑ d : Dev nD, O₀ d (kcell (c, 20)) ()) = 2 := by
  have h : ∀ d, O₀ d (kcell (c, 20)) () = (if d = prv c then 1 else 0) + (if d = nxt c then 1 else 0) := fun d => by rw [owed_at]; simp
  rw [Finset.sum_congr rfl fun d _ => h d, Finset.sum_add_distrib, one_device, one_device]

theorem creds (c : Dev nD) : (Pipeline.launchCred O₀ c : sProp 𝕄) ⊢ credIn c := by
  have h1 : (Pipeline.launchCred O₀ c : sProp 𝕄)
      ⊢ bigSep (Finset.univ.map ⟨csem, csem_injective⟩) fun sm : SemLoc sig =>
          cred (tallyOn ((c : Thread nD τ), sm) (launchCredit (Pipeline.owing O₀) 0 ((c : Thread nD τ), sm))) := by
    unfold Pipeline.launchCred
    exact bigSep_subset (Finset.subset_univ _)
  refine h1.trans ?_
  rw [bigSep_map, over21]
  unfold credIn
  rw [← owed_sum c 6 _ (owed6 c), ← owed_sum c 7 _ (owed7 c), ← owed_sum c 8 _ (owed8 c), ← owed_sum c 9 _ (owed9 c), ← owed_sum c 10 _ (owed10 c), ← owed_sum c 11 _ (owed11 c), ← owed_sum c 20 _ (owed20 c)]
  iintro ⟨H0, H1, H2, H3, H4, H5, H6, H7, H8, H9, H10, H11, H12, H13, H14, H15, H16, H17, H18, H19, H20⟩
  isplitl [H6]; · iexact H6
  isplitl [H7]; · iexact H7
  isplitl [H8]; · iexact H8
  isplitl [H9]; · iexact H9
  isplitl [H10]; · iexact H10
  isplitl [H11]; · iexact H11
  iexact H20

end Cert.GatherProof

end
-- ==== Proof.Launch.lean ====
/- The kernel in its launch: what each device holds before and after its one run of the body, and the whole program's run. -/
module

public import proofs.«01_k».proof.Proof.Ghost
public import Idealize.ShloMosaic.Lib.Pipeline.CollectiveSegs

@[expose] public section

noncomputable section

namespace Cert.GatherProof

open Cert.KernelIdeal Cert.KernelIdeal.Gen
open Idealize.ShloMosaic
open Idealize.ShloMosaic.TcCoe

open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds -/

theorem whole_eq (c : Dev nD) (b : Ref sig .tc) (q : PosShare TreeShare) (f : b.ty.Contents (Elt F)) :
    (pts c (Memref.whole b) q f : sProp 𝕄) = iprop(((c : Thread nD τ).loc b) ↦{q} f) := by
  unfold pts; simp only [Memref.view_whole, View.set_whole]

/-- A device's start: its rights, its credit, the levels, and the result array. -/
def start (c : Dev nD) : sProp 𝕄 :=
  iprop(rights m c ∗ credIn c ∗ levAts L lv ∗ pts c oM fullShare (m ((c : Thread nD τ).loc main_v1)))

/-- The six scratch buffers, at any contents. -/
def scratch (c : Dev nD) : sProp 𝕄 := iprop(anyPts c bM ∗ anyPts c mM ∗ anyPts c lM ∗ anyPts c rM ∗ anyPts c aM ∗ anyPts c dM)

def Φ₀ (c : Dev nD) : sProp 𝕄 := iprop(start m c ∗ scratch c)
/-- After the body: the scratch buffers, every cell closed at zero, the result array at the kernel's result. -/
def Φ₁ (c : Dev nD) : sProp 𝕄 :=
  iprop(scratch c ∗ (bigSep Finset.univ fun k : Fin 21 => semVal (kcell (c, k)) 0) ∗ pts c oM fullShare (outC m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m c
    | ⟨1, _⟩ => wC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem steps_one : cfg0.N = 1 := by decide
def first : Fin cfg0.N := ⟨0, by rw [steps_one]; decide⟩
theorem is_first (t : Fin cfg0.N) : t = first := Fin.ext (by have := t.isLt; have := steps_one; simp only [first]; omega)
theorem fetched0 (t : Fin cfg0.N) : (cfg0.win (0 : Fin 2)).fetch t = true := by rw [is_first t]; rfl
theorem fetched1 (t : Fin cfg0.N) : (cfg0.win (1 : Fin 2)).fetch t = true := by rw [is_first t]; rfl
theorem windows (Φ : Fin cfg0.W → sProp 𝕄) : bigSep Finset.univ Φ = iprop(Φ (0 : Fin 2) ∗ Φ (1 : Fin 2)) := bigSep_W0 Φ

/-- A staged block at contents `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

set_option maxRecDepth 4000 in
def before (c : Dev nD) : sProp 𝕄 :=
  iprop(Φ₀ m c ∗ (dats m ρ 0 c).owesAt () first.castSucc
    ∗ (∃ d, staged c cc0_stg0_0 ((dats m ρ 0 c).before (0 : Fin 2) first d))
    ∗ (∃ d, staged c cc0_stg1_0 ((dats m ρ 0 c).before (1 : Fin 2) first d)))
set_option maxRecDepth 4000 in
def afterwards (c : Dev nD) : sProp 𝕄 :=
  iprop(Φ₁ m c ∗ (dats m ρ 0 c).owesAt () first.succ ∗ staged c cc0_stg0_0 (xC m c) ∗ staged c cc0_stg1_0 (wC m c))

theorem staged_in (c : Dev nD) (b : Ref sig .tc) (X : b.ty.Contents (Elt F)) :
    (staged c b X : sProp 𝕄) ⊢ pts c (Memref.whole b) fullShare X := by
  rw [whole_eq]
  iintro ⟨%f, %h, H⟩
  subst h
  iexact H
theorem staged_out (c : Dev nD) (b : Ref sig .tc) (X : b.ty.Contents (Elt F)) :
    (pts c (Memref.whole b) fullShare X : sProp 𝕄) ⊢ staged c b X := by
  rw [whole_eq]
  iintro H
  iexists X
  isplitr; · (ipureintro; rfl)
  iexact H

theorem before0 (c : Dev nD) : iprop(∃ d, staged c cc0_stg0_0 ((dats m ρ 0 c).before (0 : Fin 2) first d)) ⊢ (pts c xM fullShare (xC m c) : sProp 𝕄) := by
  iintro ⟨%d, H⟩
  have h : (dats m ρ 0 c).before (0 : Fin 2) first d = xC m c := by unfold Dat.before; rw [if_pos (fetched0 first)]; rfl
  rw [h]
  iapply (staged_in (F := F) c cc0_stg0_0 (xC m c))
  iexact H
theorem before1 (c : Dev nD) : iprop(∃ d, staged c cc0_stg1_0 ((dats m ρ 0 c).before (1 : Fin 2) first d)) ⊢ (pts c wM fullShare (wC m c) : sProp 𝕄) := by
  iintro ⟨%d, H⟩
  have h : (dats m ρ 0 c).before (1 : Fin 2) first d = wC m c := by unfold Dat.before; rw [if_pos (fetched1 first)]; rfl
  rw [h]
  iapply (staged_in (F := F) c cc0_stg1_0 (wC m c))
  iexact H

/-! ## The body in the launch -/

theorem finish (c : Dev nD) : iprop(bodyOut m c) ⊢ afterwards m ρ c := by
  unfold bodyOut afterwards Φ₁ scratch debt
  iintro ⟨⟨%W, Ho⟩, Hz, Hx, Hw, HM, HL, HR, HA, HD, HB, HO⟩
  isplitl [HM HL HR HA HD HB Hz HO]
  · isplitl [HM HL HR HA HD HB]
    · isplitl [HB]; · iapply (anyPts_intro c bM _); iexact HB
      isplitl [HM]; · iapply (anyPts_intro c mM _); iexact HM
      isplitl [HL]; · iapply (anyPts_intro c lM _); iexact HL
      isplitl [HR]; · iapply (anyPts_intro c rM _); iexact HR
      isplitl [HA]; · iapply (anyPts_intro c aM _); iexact HA
      iapply (anyPts_intro c dM _); iexact HD
    isplitl [Hz]; · iexact Hz
    iexact HO
  isplitl [Ho]
  · iexists W
    isplitr; · (ipureintro; exact fun _ _ => Or.inl trivial)
    iexact Ho
  isplitl [Hx]
  · iapply (staged_out (F := F) c cc0_stg0_0 (xC m c)); iexact Hx
  iapply (staged_out (F := F) c cc0_stg1_0 (wC m c)); iexact Hw

set_option maxRecDepth 4000 in
/-- The body takes what a device holds before to what it holds after. -/
theorem body_obligation (c : Dev nD) : BodyObligation (dats (F := F) m ρ 0 c) (defs₀ (F := F)) 𝒱₀ () Set.univ := fun t => by
  rw [is_first t]
  rw [windows, windows]
  simp only [owns_staged]
  show before m ρ c ⊢ wp frame (wpE (defs₀ (F := F)) 𝒱₀ (c : Thread nD τ) none) Set.univ
    (cc0_body xM (Memref.isWhole_whole _) wM (Memref.isWhole_whole _) oM (Memref.isWhole_whole _) bM (Memref.isWhole_whole _) mM (Memref.isWhole_whole _) lM (Memref.isWhole_whole _) rM (Memref.isWhole_whole _) aM (Memref.isWhole_whole _) dM (Memref.isWhole_whole _) cc0_scratch6 cc0_scratch7 cc0_scratch8) (fun _ => afterwards m ρ c)
  unfold before Φ₀ start rights linear scratch
  iintro ⟨⟨⟨⟨%K, Hrec, Hpos, Htok⟩, Hcr, Hlev, HO⟩, HB, HM, HL, HR, HA, HD⟩, ⟨%W, %hW, Ho⟩, Hx, Hw⟩
  ihave Hx := (before0 m ρ c) $$ Hx
  ihave Hw := (before1 m ρ c) $$ Hw
  iapply (body_run m K (Q := fun _ => afterwards m ρ c) c) $$ [Hrec Hlev Ho Htok Hpos Hcr Hx Hw HM HL HR HA HD HB HO]
  · isplitl [Hrec]; · iexact Hrec
    isplitl [Hlev]; · iexact Hlev
    isplitl [Ho]
    · unfold debt; iexists W; iexact Ho
    isplitl [Htok]; · iexact Htok
    isplitl [Hpos]; · iexact Hpos
    isplitl [Hcr]; · iexact Hcr
    isplitl [Hx]; · iexact Hx
    isplitl [Hw]; · iexact Hw
    isplitl [HM]; · iexact HM
    isplitl [HL]; · iexact HL
    isplitl [HR]; · iexact HR
    isplitl [HA]; · iexact HA
    isplitl [HD]; · iexact HD
    isplitl [HB]; · iexact HB
    iapply (anyPts_intro c oM _); iexact HO
  iintro H
  iapply (finish m ρ c)
  iexact H

/-! ## The run -/

theorem share_eq (c : Dev nD) (w : Fin cfg0.W) : (dats (F := F) m ρ 0 c).share w = fullShare := by
  unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ rights m c)
      ⊢ |={Set.univ}=> iprop(start m c ∗ emp) := by
  rw [Pipeline.unscopedRestP_none, unscopedRest0_eq]
  unfold start
  iintro ⟨HO, Hlev, Hcr, -, Hr⟩
  ihave Hc := (creds (F := F) c) $$ Hcr
  imodintro
  isplitl
  · isplitl [Hr]; · iexact Hr
    isplitl [Hc]; · iexact Hc
    isplitl [Hlev]; · iexact Hlev
    iapply (Entails.of_eq (whole_eq (F := F) c main_v1 fullShare (m ((c : Thread nD τ).loc main_v1))).symm)
    iexact HO
  · iempintro

theorem any_whole (c : Dev nD) (b : Ref sig .tc) :
    (anyPts c (Memref.whole b) : sProp 𝕄) = iprop(∃ f : Buf (Elt F) ((c : Thread nD τ).loc b), ((c : Thread nD τ).loc b) ↦{fullShare} f) := by
  unfold anyPts
  exact congrArg _ (funext fun f => whole_eq c b fullShare f)

theorem scratch_eq (c : Dev nD) : (Pipeline.scopedRest (Ix := Unit) (Name := ℕ) (U := UU) (Lvl := ℕ) (Val := Elt F) cfg0.spec c : sProp 𝕄) = scratch c := by
  rw [scopedRest0_eq]
  unfold scratch
  rw [show (anyPts c bM : sProp 𝕄) = _ from any_whole (F := F) c cc0_scratch0, show (anyPts c mM : sProp 𝕄) = _ from any_whole (F := F) c cc0_scratch1, show (anyPts c lM : sProp 𝕄) = _ from any_whole (F := F) c cc0_scratch2, show (anyPts c rM : sProp 𝕄) = _ from any_whole (F := F) c cc0_scratch3, show (anyPts c aM : sProp 𝕄) = _ from any_whole (F := F) c cc0_scratch4, show (anyPts c dM : sProp 𝕄) = _ from any_whole (F := F) c cc0_scratch5]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs]; · iexact Hs
  iexact Hr

/-- What a device keeps after the kernel: the barrier's semaphore and the result array. -/
def kept (c : Dev nD) : sProp 𝕄 := iprop(unscopedSems0 c ∗ pts c oM fullShare (outC m c))

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scratch_eq]
  unfold Φ₁ kept
  iintro ⟨Hs, Hz, HO⟩
  ihave Hz := (sems_out (F := F) c) $$ Hz
  icases Hz with ⟨Hos, Hus⟩
  isplitl [Hus HO]
  · isplitl [Hus]; · iexact Hus
    iexact HO
  isplitl [Hos]; · iexact Hos
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_above c _ 0 _ (by fin_cases w <;> fin_cases s <;> decide) (by
      rcases t with ⟨_ | _, ht⟩
      · exact above₀ c
      · exact above_zero 0)

/-- What is read off the memory after the kernel: the barrier's semaphore at zero and the result array. -/
def Seen (c : Dev nD) (s : MemSt nD τ sig (Elt F)) : Prop :=
  (∀ sm : SemLoc sig, sm.isScoped .tc = false → s.sem ((c.tc : Thread nD τ), sm) = 0) ∧ s.mem ((c : Thread nD τ).loc main_v1) = outC m c

theorem see (c : Dev nD) (s' : Phys nD τ sig (Elt F)) :
    iprop(kept m c ∗ emp ∗ SI s') ⊢ |={Set.univ}=> (iprop(⌜Seen m c s'.mem⌝ ∗ SI s') : sProp 𝕄) := by
  have hr : iprop((((c : Thread nD τ).loc main_v1) ↦{fullShare} outC m c) ∗ SI s')
      ⊢ (iprop(⌜s'.mem.mem ((c : Thread nD τ).loc main_v1) = outC m c⌝ ∗ SI s') : sProp 𝕄) := by
    have h : iprop((bigSep {()} fun _ : Unit => (((c : Thread nD τ).loc main_v1) ↦{fullShare} outC m c : sProp 𝕄)) ∗ SI s') ⊢ _ :=
      pointsTo_read_all (F := fun _ : Unit => outC m c) (q := fullShare) {()} (fun _ : Unit => (c : Thread nD τ).loc main_v1) s'
    rw [bigSep_singleton] at h
    exact h.trans (sep_mono_left (BI.pure_mono fun h => h () (Finset.mem_singleton_self ())))
  unfold kept
  rw [show (pts c oM fullShare (outC m c) : sProp 𝕄) = _ from whole_eq c main_v1 fullShare (outC m c)]
  iintro ⟨⟨Hu, HO⟩, -, HSI⟩
  ihave H := hr $$ [HO HSI]
  · isplitl [HO]; · iexact HO
    iexact HSI
  icases H with ⟨%hO, HSI⟩
  imod (Pipeline.unscopedSems0_read (X := unscopedSems0 c) (c := c) fupd_intro s') $$ [Hu HSI] with ⟨%hz, HSI⟩
  · isplitl [Hu]; · iexact Hu
    iexact HSI
  imodintro
  isplitr
  · ipureintro; exact ⟨hz, hO⟩
  iexact HSI

/-- What the program leaves: each device's inputs as they were, its result, and every semaphore at zero. -/
def Left (s : MemSt nD τ sig (Elt F)) : Prop :=
  (∀ c : Dev nD, s.mem ((c : Thread nD τ).loc main_v1) = outC m c
    ∧ s.mem ((c : Thread nD τ).loc main_arg0) = m ((c : Thread nD τ).loc main_arg0)
    ∧ s.mem ((c : Thread nD τ).loc main_arg1) = m ((c : Thread nD τ).loc main_arg1)) ∧ s.sem = fun _ => 0

set_option maxRecDepth 8000 in
/-- Every fair run of the program on the four devices ends, and ends so. -/
theorem run_main : θ_run defs (onTc (τ := τ) (main (F := F))) (s₀ m ρ) (fun r => Left m r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := dealt m) (G' := rights m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := set_up m)
    (hA := fun _ _ => rfl) (hpf := fun _ k => k.elim0)
    (X := start m) (Y := kept m) (Z := fun _ => iprop(emp))
    (hX := start_intro m ρ) (hin := phi0_intro m ρ) (hout := phi1_exit m ρ)
    (QY := Seen m) (hY := see m)
    (hQ := fun _ h hs => ⟨fun c => ⟨(h c).2.2.2,
        ((h c).1 (0 : Fin 2)).trans ((dats (F := F) m ρ 0 c).arrAt_in (0 : Fin 2) rfl _),
        ((h c).1 (1 : Fin 2)).trans ((dats (F := F) m ρ 0 c).arrAt_in (1 : Fin 2) rfl _)⟩,
      sem_eq_zero hs fun c => (h c).2.2.1⟩)

end Cert.GatherProof

end
-- ==== Proof.Value.lean ====
/- The value: each device's result, the products laid one under the other, is its columns of the product of the whole
   matrices. -/
module

public import proofs.«01_k».proof.Proof.Data
public import proofs.«01_k».proof.Proof.Gen.ReferenceIdeal.Run
public import Idealize.ShloMosaic.Lib.KernelVsHost
public import Idealize.ShloMosaic.Lib.StackMember

@[expose] public section

noncomputable section

namespace Cert.GatherProof

open Cert.KernelIdeal Cert.KernelIdeal.Gen
open Idealize.ShloMosaic
open Idealize.ShloMosaic.TcCoe
open Idealize.ShloMosaic.ValueIdx

variable (m : (ℓ : Loc nD τ sig) → Buf (Elt Ideal) ℓ)

/-- The whole matrices. -/
abbrev Whole : Type := (⟨2, ![1024, 1024]⟩ : Shape).Idx → Ideal .bf16

/-- What the launch stages of each input is the whole of the device's block. -/
theorem xC_eq (c : Dev nD) : xC m c = m ((c : Thread nD τ).loc main_arg0) := by
  funext i
  show m ((c : Thread nD τ).loc main_arg0) _ = m ((c : Thread nD τ).loc main_arg0) _
  congr 1; funext a; apply Fin.ext
  match a with
  | ⟨0, _⟩ => show 0 + 1 * (i 0).val = (i 0).val; omega
  | ⟨1, _⟩ => show 0 + 1 * (i 1).val = (i 1).val; omega
theorem wC_eq (c : Dev nD) : wC m c = m ((c : Thread nD τ).loc main_arg1) := by
  funext i
  show m ((c : Thread nD τ).loc main_arg1) _ = m ((c : Thread nD τ).loc main_arg1) _
  congr 1; funext a; apply Fin.ext
  match a with
  | ⟨0, _⟩ => show 0 + 1 * (i 0).val = (i 0).val; omega
  | ⟨1, _⟩ => show 0 + 1 * (i 1).val = (i 1).val; omega

/-- An entry of a product is the sum over the inner coordinate. -/
theorem prod_at (c o : Dev nD) (h : Fin 2) (i : Fin 128) (k : Fin 256) :
    prod m c o h (ix2 i k) = ∑ t : Fin 1024, half m o h (ix2 i t) * wC m c (ix2 t k) := by
  unfold prod
  rw [matmul_zero_eq_dotGeneral]
  exact Idealize.ShloMosaic.StackMember.dotGeneral_plain_apply (φ₁ := .bf16) (φ₂ := .bf16) none (half m o h) (wC m c) i k

/-- The product of the whole matrices, as the reference computes it. -/
def whole (X W : Whole) : Whole :=
  truncf (F := Ideal) .bf16 (Host.dotGeneral (F := Ideal) Cert.ReferenceIdeal.dot_S1024x1024_S1024x1024_S1024x1024_1_0_0_1_n_n none
    (extf (F := Ideal) (s := Cert.ReferenceIdeal.S1024x1024) (φ := .bf16) .f32 X Cert.ReferenceIdeal.Gen.bitsLt_bf16_f32) (extf (F := Ideal) (s := Cert.ReferenceIdeal.S1024x1024) (φ := .bf16) .f32 W Cert.ReferenceIdeal.Gen.bitsLt_bf16_f32)) Cert.ReferenceIdeal.Gen.bitsLt_bf16_f32

theorem whole_at (X W : Whole) (r k : Fin 1024) : whole X W (ix2 r k) = ∑ t : Fin 1024, X (ix2 r t) * W (ix2 t k) :=
  Idealize.ShloMosaic.StackMember.dotGeneral_plain_apply (φ₁ := .f32) (φ₂ := .f32) none X W r k

/-- Each device's result is its columns of the whole product. -/
theorem outC_whole (X W : Whole)
    (hx : ∀ c : Dev nD, m ((c : Thread nD τ).loc main_arg0) = Layout.block ⟨2, ![256, 1024]⟩ ⟨2, ![1024, 1024]⟩ 0 4 c X)
    (hw : ∀ c : Dev nD, m ((c : Thread nD τ).loc main_arg1) = Layout.block ⟨2, ![1024, 256]⟩ ⟨2, ![1024, 1024]⟩ 1 4 c W) (c : Dev nD) :
    outC m c = Layout.block ⟨2, ![1024, 256]⟩ ⟨2, ![1024, 1024]⟩ 1 4 c (whole X W) := by
  funext i
  have hi0 : (i 0).val < 1024 := idx2_lt0 i
  have hi1 : (i 1).val < 256 := idx2_lt1 i
  have hc : c.val < 4 := c.isLt
  have hidx : ∀ ht : Layout.Tiles ⟨2, ![1024, 256]⟩ ⟨2, ![1024, 1024]⟩ 1 4,
      ht.idx c i = ix2 (⟨(i 0).val, hi0⟩ : Fin 1024) (⟨c.val * 256 + (i 1).val, by omega⟩ : Fin 1024) := fun ht => by
    funext a; apply Fin.ext
    match a with
    | ⟨0, _⟩ => rfl
    | ⟨1, _⟩ => rfl
  rw [Layout.block_apply, hidx, whole_at]
  unfold outC
  refine (prod_at m c _ _ _ ⟨(i 1).val, hi1⟩).trans (Finset.sum_congr rfl fun t _ => ?_)
  unfold half
  rw [xC_eq, wC_eq, hx, hw]
  simp only [Layout.block_apply]
  congr 1
  · congr 1; funext a; apply Fin.ext
    match a with
    | ⟨0, _⟩ =>
      show (i 0).val / 256 * 256 + (128 * ((i 0).val / 128 % 2) + (i 0).val % 128) = (i 0).val
      omega
    | ⟨1, _⟩ => rfl
  · congr 1; funext a; apply Fin.ext
    match a with
    | ⟨0, _⟩ => rfl
    | ⟨1, _⟩ => rfl

end Cert.GatherProof

end
-- ==== Proof.lean ====
module

public import proofs.«01_k».proof.Defs
public import proofs.«01_k».proof.Proof.Launch
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The two programs are the same text, body and table of bodies. -/
theorem bodies_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
theorem defs_same : Cert.Kernel.defs (F := Bits) = Cert.KernelIdeal.defs (F := Bits) := by
  unfold Cert.Kernel.defs Cert.KernelIdeal.defs
  rw [bodies_same]
  rfl

/-- The kernel on words: the program is the same text as the idealized one's, and its run holds at any float values. -/
theorem frame_kernel : Cert.quiescent_Kernel := fun m ρ _ => by
  have h : θ_run (Cert.KernelIdeal.defs (F := Bits)) (onTc (τ := Cert.KernelIdeal.τ) (Cert.KernelIdeal.main (F := Bits))) (Cert.GatherProof.s₀ m ρ)
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
    (θ_run Cert.KernelIdeal.defs _ _).mono (fun _ h => ⟨fun c => (h.1 c).2, h.2⟩) (Cert.GatherProof.run_main (F := Bits) m ρ)
  rw [defs_same]
  exact h

theorem frame_kernelIdeal : Cert.quiescent_KernelIdeal := fun m ρ _ =>
  (θ_run Cert.KernelIdeal.defs _ _).mono (fun _ h => ⟨fun c => (h.1 c).2, h.2⟩) (Cert.GatherProof.run_main (F := Ideal) m ρ)

theorem algebraic : Cert.algebraic_KernelIdeal_ReferenceIdeal := fun m ρ m' ρ' _ hin =>
  ⟨Cert.GatherProof.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.GatherProof.outC_whole m _ _ (fun c => (hin c).1) (fun c => (hin c).2) c), (h.1 c).2⟩)
      (Cert.GatherProof.run_main (F := Ideal) m ρ),
    (θ_run Cert.ReferenceIdeal.defs _ _).mono (fun _ h => h 0) (Cert.ReferenceIdeal.Value.run m' ρ')⟩

/-- The reference has no semaphore, so every counter is zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts,
  frame_kernel, frame_kernelIdeal, frame_reference, trivial, algebraic⟩

end Cert.Proof

end
